-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_ShiftedIdeal (m : (ℓ : Loc Cert.ShiftedIdeal.nD Cert.ShiftedIdeal.τ Cert.ShiftedIdeal.sig) → Buf (Elt Ideal) ℓ) : Prop :=
  True

def Pre_ShiftedIdeal_inputs [hPre_inputs : Cert.Pre_inputs.Facts] (m : (ℓ : Loc Cert.ShiftedIdeal.nD Cert.ShiftedIdeal.τ Cert.ShiftedIdeal.sig) → Buf (Elt Ideal) ℓ) : Prop :=
  ∀ c : Dev Cert.ShiftedIdeal.nD,
    (Cert.Pre_inputs.fn (F := Ideal) (m ((c.tc : Thread Cert.ShiftedIdeal.nD Cert.ShiftedIdeal.τ).loc Cert.ShiftedIdeal.main_arg0)) (m ((c.tc : Thread Cert.ShiftedIdeal.nD Cert.ShiftedIdeal.τ).loc Cert.ShiftedIdeal.main_arg1)) (m ((c.tc : Thread Cert.ShiftedIdeal.nD Cert.ShiftedIdeal.τ).loc Cert.ShiftedIdeal.main_arg2)) (m ((c.tc : Thread Cert.ShiftedIdeal.nD Cert.ShiftedIdeal.τ).loc Cert.ShiftedIdeal.main_arg3)) (m ((c.tc : Thread Cert.ShiftedIdeal.nD Cert.ShiftedIdeal.τ).loc Cert.ShiftedIdeal.main_arg4)) (m ((c.tc : Thread Cert.ShiftedIdeal.nD Cert.ShiftedIdeal.τ).loc Cert.ShiftedIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ShiftedIdeal [hShiftedIdeal : Cert.ShiftedIdeal.Facts] : Prop :=
  ∀ (m : (ℓ : Loc Cert.ShiftedIdeal.nD Cert.ShiftedIdeal.τ Cert.ShiftedIdeal.sig) → Buf (Elt Ideal) ℓ) (g : Dev Cert.ShiftedIdeal.nD → PrngReg), Pre_ShiftedIdeal m →
    θ_run (Cert.ShiftedIdeal.defs (F := Ideal)) (onTc (τ := Cert.ShiftedIdeal.τ) (Cert.ShiftedIdeal.main (F := Ideal))) ⟨m, fun _ => 0, g⟩ (fun r => (∀ c : Dev Cert.ShiftedIdeal.nD,
      r.2.mem ((c.tc : Thread Cert.ShiftedIdeal.nD Cert.ShiftedIdeal.τ).loc Cert.ShiftedIdeal.main_arg0) = m ((c.tc : Thread Cert.ShiftedIdeal.nD Cert.ShiftedIdeal.τ).loc Cert.ShiftedIdeal.main_arg0)
      ∧ r.2.mem ((c.tc : Thread Cert.ShiftedIdeal.nD Cert.ShiftedIdeal.τ).loc Cert.ShiftedIdeal.main_arg1) = m ((c.tc : Thread Cert.ShiftedIdeal.nD Cert.ShiftedIdeal.τ).loc Cert.ShiftedIdeal.main_arg1)
      ∧ r.2.mem ((c.tc : Thread Cert.ShiftedIdeal.nD Cert.ShiftedIdeal.τ).loc Cert.ShiftedIdeal.main_arg2) = m ((c.tc : Thread Cert.ShiftedIdeal.nD Cert.ShiftedIdeal.τ).loc Cert.ShiftedIdeal.main_arg2)
      ∧ r.2.mem ((c.tc : Thread Cert.ShiftedIdeal.nD Cert.ShiftedIdeal.τ).loc Cert.ShiftedIdeal.main_arg3) = m ((c.tc : Thread Cert.ShiftedIdeal.nD Cert.ShiftedIdeal.τ).loc Cert.ShiftedIdeal.main_arg3)
      ∧ r.2.mem ((c.tc : Thread Cert.ShiftedIdeal.nD Cert.ShiftedIdeal.τ).loc Cert.ShiftedIdeal.main_arg4) = m ((c.tc : Thread Cert.ShiftedIdeal.nD Cert.ShiftedIdeal.τ).loc Cert.ShiftedIdeal.main_arg4)
      ∧ r.2.mem ((c.tc : Thread Cert.ShiftedIdeal.nD Cert.ShiftedIdeal.τ).loc Cert.ShiftedIdeal.main_arg5) = m ((c.tc : Thread Cert.ShiftedIdeal.nD Cert.ShiftedIdeal.τ).loc Cert.ShiftedIdeal.main_arg5))
      ∧ r.2.sem = fun _ => 0)

def quiescent_ShiftedIdeal_pre_inputs [hShiftedIdeal : Cert.ShiftedIdeal.Facts] [hPre_inputs : Cert.Pre_inputs.Facts] : Prop :=
  ∀ (m : (ℓ : Loc Cert.ShiftedIdeal.nD Cert.ShiftedIdeal.τ Cert.ShiftedIdeal.sig) → Buf (Elt Ideal) ℓ) (g : Dev Cert.ShiftedIdeal.nD → PrngReg), Pre_ShiftedIdeal_inputs m →
    θ_run (Cert.ShiftedIdeal.defs (F := Ideal)) (onTc (τ := Cert.ShiftedIdeal.τ) (Cert.ShiftedIdeal.main (F := Ideal))) ⟨m, fun _ => 0, g⟩ (fun r => (∀ c : Dev Cert.ShiftedIdeal.nD,
      r.2.mem ((c.tc : Thread Cert.ShiftedIdeal.nD Cert.ShiftedIdeal.τ).loc Cert.ShiftedIdeal.main_arg0) = m ((c.tc : Thread Cert.ShiftedIdeal.nD Cert.ShiftedIdeal.τ).loc Cert.ShiftedIdeal.main_arg0)
      ∧ r.2.mem ((c.tc : Thread Cert.ShiftedIdeal.nD Cert.ShiftedIdeal.τ).loc Cert.ShiftedIdeal.main_arg1) = m ((c.tc : Thread Cert.ShiftedIdeal.nD Cert.ShiftedIdeal.τ).loc Cert.ShiftedIdeal.main_arg1)
      ∧ r.2.mem ((c.tc : Thread Cert.ShiftedIdeal.nD Cert.ShiftedIdeal.τ).loc Cert.ShiftedIdeal.main_arg2) = m ((c.tc : Thread Cert.ShiftedIdeal.nD Cert.ShiftedIdeal.τ).loc Cert.ShiftedIdeal.main_arg2)
      ∧ r.2.mem ((c.tc : Thread Cert.ShiftedIdeal.nD Cert.ShiftedIdeal.τ).loc Cert.ShiftedIdeal.main_arg3) = m ((c.tc : Thread Cert.ShiftedIdeal.nD Cert.ShiftedIdeal.τ).loc Cert.ShiftedIdeal.main_arg3)
      ∧ r.2.mem ((c.tc : Thread Cert.ShiftedIdeal.nD Cert.ShiftedIdeal.τ).loc Cert.ShiftedIdeal.main_arg4) = m ((c.tc : Thread Cert.ShiftedIdeal.nD Cert.ShiftedIdeal.τ).loc Cert.ShiftedIdeal.main_arg4)
      ∧ r.2.mem ((c.tc : Thread Cert.ShiftedIdeal.nD Cert.ShiftedIdeal.τ).loc Cert.ShiftedIdeal.main_arg5) = m ((c.tc : Thread Cert.ShiftedIdeal.nD Cert.ShiftedIdeal.τ).loc Cert.ShiftedIdeal.main_arg5))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_KernelIdeal_ShiftedIdeal_pre_inputs [hKernelIdeal : Cert.KernelIdeal.Facts] [hShiftedIdeal : Cert.ShiftedIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ShiftedIdeal.nD Cert.ShiftedIdeal.τ Cert.ShiftedIdeal.sig) → Buf (Elt Ideal) ℓ) (g' : Dev Cert.ShiftedIdeal.nD → PrngReg), Pre_KernelIdeal_inputs m →
    (∀ c : Dev Cert.KernelIdeal.nD,
      m' ((c.tc : Thread Cert.ShiftedIdeal.nD Cert.ShiftedIdeal.τ).loc Cert.ShiftedIdeal.main_arg0) = m ((c.tc : Thread Cert.KernelIdeal.nD Cert.KernelIdeal.τ).loc Cert.KernelIdeal.main_arg0)
      ∧ m' ((c.tc : Thread Cert.ShiftedIdeal.nD Cert.ShiftedIdeal.τ).loc Cert.ShiftedIdeal.main_arg1) = m ((c.tc : Thread Cert.KernelIdeal.nD Cert.KernelIdeal.τ).loc Cert.KernelIdeal.main_arg1)
      ∧ m' ((c.tc : Thread Cert.ShiftedIdeal.nD Cert.ShiftedIdeal.τ).loc Cert.ShiftedIdeal.main_arg2) = m ((c.tc : Thread Cert.KernelIdeal.nD Cert.KernelIdeal.τ).loc Cert.KernelIdeal.main_arg2)
      ∧ m' ((c.tc : Thread Cert.ShiftedIdeal.nD Cert.ShiftedIdeal.τ).loc Cert.ShiftedIdeal.main_arg3) = m ((c.tc : Thread Cert.KernelIdeal.nD Cert.KernelIdeal.τ).loc Cert.KernelIdeal.main_arg3)
      ∧ m' ((c.tc : Thread Cert.ShiftedIdeal.nD Cert.ShiftedIdeal.τ).loc Cert.ShiftedIdeal.main_arg4) = m ((c.tc : Thread Cert.KernelIdeal.nD Cert.KernelIdeal.τ).loc Cert.KernelIdeal.main_arg4)
      ∧ m' ((c.tc : Thread Cert.ShiftedIdeal.nD Cert.ShiftedIdeal.τ).loc Cert.ShiftedIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ShiftedIdeal.defs (F := Ideal)) (onTc (τ := Cert.ShiftedIdeal.τ) (Cert.ShiftedIdeal.main (F := Ideal))) ⟨m', fun _ => 0, g'⟩ (fun r => ∀ c : Dev Cert.ShiftedIdeal.nD,
          r.2.mem ((c.tc : Thread Cert.ShiftedIdeal.nD Cert.ShiftedIdeal.τ).loc Cert.ShiftedIdeal.main_v49) = v0 c
          ∧ r.2.mem ((c.tc : Thread Cert.ShiftedIdeal.nD Cert.ShiftedIdeal.τ).loc Cert.ShiftedIdeal.main_arg0) = m' ((c.tc : Thread Cert.ShiftedIdeal.nD Cert.ShiftedIdeal.τ).loc Cert.ShiftedIdeal.main_arg0)
          ∧ r.2.mem ((c.tc : Thread Cert.ShiftedIdeal.nD Cert.ShiftedIdeal.τ).loc Cert.ShiftedIdeal.main_arg1) = m' ((c.tc : Thread Cert.ShiftedIdeal.nD Cert.ShiftedIdeal.τ).loc Cert.ShiftedIdeal.main_arg1)
          ∧ r.2.mem ((c.tc : Thread Cert.ShiftedIdeal.nD Cert.ShiftedIdeal.τ).loc Cert.ShiftedIdeal.main_arg2) = m' ((c.tc : Thread Cert.ShiftedIdeal.nD Cert.ShiftedIdeal.τ).loc Cert.ShiftedIdeal.main_arg2)
          ∧ r.2.mem ((c.tc : Thread Cert.ShiftedIdeal.nD Cert.ShiftedIdeal.τ).loc Cert.ShiftedIdeal.main_arg3) = m' ((c.tc : Thread Cert.ShiftedIdeal.nD Cert.ShiftedIdeal.τ).loc Cert.ShiftedIdeal.main_arg3)
          ∧ r.2.mem ((c.tc : Thread Cert.ShiftedIdeal.nD Cert.ShiftedIdeal.τ).loc Cert.ShiftedIdeal.main_arg4) = m' ((c.tc : Thread Cert.ShiftedIdeal.nD Cert.ShiftedIdeal.τ).loc Cert.ShiftedIdeal.main_arg4)
          ∧ r.2.mem ((c.tc : Thread Cert.ShiftedIdeal.nD Cert.ShiftedIdeal.τ).loc Cert.ShiftedIdeal.main_arg5) = m' ((c.tc : Thread Cert.ShiftedIdeal.nD Cert.ShiftedIdeal.τ).loc Cert.ShiftedIdeal.main_arg5))

def Claim : Prop :=
  ∃ (hKernel : Cert.Kernel.Facts) (hKernelIdeal : Cert.KernelIdeal.Facts) (hReferenceIdeal : Cert.ReferenceIdeal.Facts) (hShiftedIdeal : Cert.ShiftedIdeal.Facts) (hPre_in_range : Cert.Pre_in_range.Facts) (hPre_inputs : Cert.Pre_inputs.Facts),
    quiescent_Kernel (hKernel := hKernel) (hPre_in_range := hPre_in_range)
    ∧ quiescent_KernelIdeal (hKernelIdeal := hKernelIdeal) (hPre_in_range := hPre_in_range)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ quiescent_ShiftedIdeal (hShiftedIdeal := hShiftedIdeal)
    ∧ quiescent_ShiftedIdeal_pre_inputs (hShiftedIdeal := hShiftedIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
    ∧ algebraic_KernelIdeal_ShiftedIdeal_pre_inputs (hKernelIdeal := hKernelIdeal) (hShiftedIdeal := hShiftedIdeal) (hPre_inputs := hPre_inputs)
-- ==== Pre_in_range.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S128x64 .f32) (main_arg3 : FVec F S64 .f32) (main_arg4 : FVec F S64x1 .f32) (main_arg5 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 256#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_inputs.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S100000x1 : Shape := ⟨2, ![100000, 1]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S100000x1 : S_.BroadcastsInDim S100000x1 (![] : Fin 0 → Fin S100000x1.rank)
  reducesTo_S100000x1_S_d0_1 : S100000x1.ReducesTo [0, 1] S_
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def fn_part1 {F : FTy → Type} [FloatOps F] (main_arg5 : FVec F S1 .f32) (main_v2 : FVec F S100000x1 .f32) (main_v17 : IVec S_ 1) : IVec S_ 1 :=
  let main_cst_4 : FVec F S_ .f32 := constant S_ .f32 0x00000000#32
  let main_v18 : FVec F S1 .f32 := broadcastInDim S1 ![] bcast_S_S1 main_cst_4
  let main_v19 : IVec S1 1 := cmpf .oeq main_arg5 main_v18
  let main_c_5 : IVec S_ 1 := constantI S_ 1 1#1
  let main_v20 : IVec S_ 1 := (fun x v => Host.reduce IntOp.andi x v reducesTo_S1_S_d0 h_S_) main_v19 main_c_5
  let main_v21 : IVec S_ 1 := andi main_v17 main_v20
  let main_v22 : FVec F S100000x1 .f32 := Host.absf main_v2
  let main_cst_6 : FVec F S_ .f32 := constant S_ .f32 0x42700000#32
  let main_v23 : FVec F S100000x1 .f32 := broadcastInDim S100000x1 ![] bcast_S_S100000x1 main_cst_6
  let main_v24 : IVec S100000x1 1 := cmpf .ole main_v22 main_v23
  let main_c_7 : IVec S_ 1 := constantI S_ 1 1#1
  let main_v25 : IVec S_ 1 := (fun x v => Host.reduce IntOp.andi x v reducesTo_S100000x1_S_d0_1 h_S_) main_v24 main_c_7
  let main_v26 : IVec S_ 1 := andi main_v21 main_v25
  main_v26

def fn {F : FTy → Type} [FloatOps F] (main_arg0 : FVec F S100000x128 .f32) (main_arg1 : IVec S100000 32) (main_arg2 : FVec F S128x64 .f32) (main_arg3 : FVec F S64 .f32) (main_arg4 : FVec F S64x1 .f32) (main_arg5 : FVec F S1 .f32) : IVec S_ 1 :=
  let main_v0 : FVec F S100000x64 .f32 := (fun l r => Host.dotGeneral dot_S100000x128_S128x64_S100000x64_1_0_0_1_n_n none l r) main_arg0 main_arg2
  let main_v1 : FVec F S100000x64 .f32 := Host.tanh main_v0
  let main_v2 : FVec F S100000x1 .f32 := (fun l r => Host.dotGeneral dot_S100000x64_S64x1_S100000x1_1_0_0_1_n_n none l r) main_v1 main_arg4
  let main_c : IVec S_ 32 := constantI S_ 32 0#32
  let main_v3 : IVec S100000 32 := broadcastInDim S100000 ![] bcast_S_S100000 main_c
  let main_v4 : IVec S100000 1 := cmpi .sge main_arg1 main_v3
  let main_c_0 : IVec S_ 32 := constantI S_ 32 256#32
  let main_v5 : IVec S100000 32 := broadcastInDim S100000 ![] bcast_S_S100000 main_c_0
  let main_v6 : IVec S100000 1 := cmpi .slt main_arg1 main_v5
  let main_v7 : IVec S100000 1 := andi main_v4 main_v6
  let main_c_1 : IVec S_ 1 := constantI S_ 1 1#1
  let main_v8 : IVec S_ 1 := (fun x v => Host.reduce IntOp.andi x v reducesTo_S100000_S_d0 h_S_) main_v7 main_c_1
  let main_v9 : IVec S99999 32 := (extractStridedSlice S99999 ![0] · slices_S100000_S99999_0) main_arg1
  let main_v10 : IVec S99999 32 := (extractStridedSlice S99999 ![1] · slices_S100000_S99999_1) main_arg1
  let main_v11 : IVec S99999 1 := cmpi .sle main_v9 main_v10
  let main_c_2 : IVec S_ 1 := constantI S_ 1 1#1
  let main_v12 : IVec S_ 1 := (fun x v => Host.reduce IntOp.andi x v reducesTo_S99999_S_d0 h_S_) main_v11 main_c_2
  let main_v13 : IVec S_ 1 := andi main_v8 main_v12
  let main_cst : FVec F S_ .f32 := constant S_ .f32 0x00000000#32
  let main_v14 : FVec F S64 .f32 := broadcastInDim S64 ![] bcast_S_S64 main_cst
  let main_v15 : IVec S64 1 := cmpf .oeq main_arg3 main_v14
  let main_c_3 : IVec S_ 1 := constantI S_ 1 1#1
  let main_v16 : IVec S_ 1 := (fun x v => Host.reduce IntOp.andi x v reducesTo_S64_S_d0 h_S_) main_v15 main_c_3
  let main_v17 : IVec S_ 1 := andi main_v13 main_v16
  fn_part1 (F := F) main_arg5 main_v2 main_v17
-- ==== Kernel.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S25x1x4000 : Shape := ⟨3, ![25, 1, 4000]⟩
abbrev S1x64 : Shape := ⟨2, ![1, 64]⟩
abbrev S1x1 : Shape := ⟨2, ![1, 1]⟩
abbrev S256x128 : Shape := ⟨2, ![256, 128]⟩
abbrev S4000x128 : Shape := ⟨2, ![4000, 128]⟩
abbrev S1x1x4000 : Shape := ⟨3, ![1, 1, 4000]⟩
abbrev S272x128 : Shape := ⟨2, ![272, 128]⟩
abbrev S272x1 : Shape := ⟨2, ![272, 1]⟩
abbrev S1x4000 : Shape := ⟨2, ![1, 4000]⟩
abbrev S4000x64 : Shape := ⟨2, ![4000, 64]⟩
abbrev S1x1x1 : Shape := ⟨3, ![1, 1, 1]⟩
abbrev S16x4000 : Shape := ⟨2, ![16, 4000]⟩
abbrev S16 : Shape := ⟨1, ![16]⟩
abbrev S16x1 : Shape := ⟨2, ![16, 1]⟩
abbrev S16x128 : Shape := ⟨2, ![16, 128]⟩
abbrev S256x1 : Shape := ⟨2, ![256, 1]⟩

abbrev nBuf : Space → Nat
  | .hbm => 11
  | .vmem => 11
  | .smem => 2
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S25x1x4000, .i32⟩
  | .hbm, ⟨7, _⟩ => ⟨S1x64, .f32⟩
  | .hbm, ⟨8, _⟩ => ⟨S1x64, .f32⟩
  | .hbm, ⟨9, _⟩ => ⟨S1x1, .f32⟩
  | .hbm, ⟨10, _⟩ => ⟨S256x128, .f32⟩
  | .local _ .vmem, ⟨0, _⟩ => ⟨S4000x128, .f32⟩
  | .local _ .vmem, ⟨1, _⟩ => ⟨S4000x128, .f32⟩
  | .local _ .vmem, ⟨2, _⟩ => ⟨S1x1x4000, .i32⟩
  | .local _ .vmem, ⟨3, _⟩ => ⟨S1x1x4000, .i32⟩
  | .local _ .vmem, ⟨4, _⟩ => ⟨S128x64, .f32⟩
  | .local _ .vmem, ⟨5, _⟩ => ⟨S1x64, .f32⟩
  | .local _ .vmem, ⟨6, _⟩ => ⟨S1x64, .f32⟩
  | .local _ .vmem, ⟨7, _⟩ => ⟨S1x1, .f32⟩
  | .local _ .vmem, ⟨8, _⟩ => ⟨S256x128, .f32⟩
  | .local _ .vmem, ⟨9, _⟩ => ⟨S272x128, .f32⟩
  | .local _ .vmem, ⟨10, _⟩ => ⟨S272x1, .f32⟩
  | .local _ .smem, ⟨0, _⟩ => ⟨S1x1x4000, .i32⟩
  | .local _ .smem, ⟨1, _⟩ => ⟨S1x1x4000, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg2_0 : Ref sig .tc := ⟨.smem, 0, rfl⟩
abbrev cc0_stg2_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![25], ![false]⟩

def k0_off1 (v21 : BitVec 32) : Fin 2 → Nat :=
  let v36 : Index := Scalar.indexCast v21
  let c0_20 : Index := 0#32
  ![v36.toNat, 0]

def k0_off2 (v21 : BitVec 32) : Fin 2 → Nat :=
  let v43 : Index := Scalar.indexCast v21
  let c0_22 : Index := 0#32
  ![v43.toNat, 0]

def k0_chk1 (v21 : BitVec 32) : Prop :=
  (∀ a, (k0_off1 v21) a + S16x1.size a ≤ S272x1.size a) ∧
  (∀ a, (k0_off2 v21) a + S16x128.size a ≤ S272x128.size a)
theorem k0_off1_inb : ∀ (v21 : BitVec 32) (k0_hw1 : k0_chk1 v21), ∀ a, (k0_off1 v21) a + S16x1.size a ≤ S272x1.size a := fun v21 k0_hw1 => k0_hw1.1
theorem k0_off2_inb : ∀ (v21 : BitVec 32) (k0_hw1 : k0_chk1 v21), ∀ a, (k0_off2 v21) a + S16x128.size a ≤ S272x128.size a := fun v21 k0_hw1 => k0_hw1.2

@[reducible] def k0_t1_loop (v21 : BitVec 32) (v22 : BitVec 32) : Scf.Loop 32 :=
  let c1_i32_34 : BitVec 32 := 1#32
  let v57 : BitVec 32 := Scalar.subi v22 v21
  let c0_i32_27 : BitVec 32 := 0#32
  let v59 : BitVec 1 := Scalar.cmpi .sgt v57 c0_i32_27
  let v60 : BitVec 32 := Scalar.extui v59
  let c0_i32_28 : BitVec 32 := 0#32
  let v61 : BitVec 1 := Scalar.cmpi .slt v57 c0_i32_28
  let v62 : BitVec 32 := Scalar.extui v61
  let v63 : BitVec 32 := Scalar.subi v60 v62
  let c16_i32_26 : BitVec 32 := 16#32
  let c0_i32_29 : BitVec 32 := 0#32
  let v64 : BitVec 1 := Scalar.cmpi .sgt c16_i32_26 c0_i32_29
  let v65 : BitVec 32 := Scalar.extui v64
  let c0_i32_30 : BitVec 32 := 0#32
  let v66 : BitVec 1 := Scalar.cmpi .slt c16_i32_26 c0_i32_30
  let v67 : BitVec 32 := Scalar.extui v66
  let v68 : BitVec 32 := Scalar.subi v65 v67
  let v69 : BitVec 1 := Scalar.cmpi .ne v63 v68
  let v70 : BitVec 32 := Scalar.remsi v57 c16_i32_26
  let c0_i32_31 : BitVec 32 := 0#32
  let v71 : BitVec 1 := Scalar.cmpi .ne v70 c0_i32_31
  let v72 : BitVec 1 := Scalar.andi v69 v71
  let v58 : BitVec 32 := Scalar.divsi v57 c16_i32_26
  let c1_i32 : BitVec 32 := 1#32
  let v73 : BitVec 32 := Scalar.subi v58 c1_i32
  let v74 : BitVec 32 := Scalar.select v72 v73 v58
  let c1_i32_32 : BitVec 32 := 1#32
  let v75 : BitVec 32 := Scalar.addi v74 c1_i32_32
  let v76 : BitVec 32 := Scalar.subi v75 c1_i32_34
  let c1_i32_35 : BitVec 32 := 1#32
  let v78 : BitVec 32 := Scalar.divsi v76 c1_i32_35
  let v79 : BitVec 32 := Scalar.muli v78 c1_i32_35
  let v80 : BitVec 32 := Scalar.addi c1_i32_34 v79
  let c1_i32_36 : BitVec 32 := 1#32
  ⟨c1_i32_34, v80, c1_i32_36⟩
def k0_cond2 (v21 : BitVec 32) (v22 : BitVec 32) : BitVec 1 :=
  let c16_i32 : BitVec 32 := 16#32
  let v50 : BitVec 32 := Scalar.addi v21 c16_i32
  let v51 : BitVec 1 := Scalar.cmpi .sge v22 v50
  let v52 : BitVec 32 := Scalar.extui v51
  let c0_i32_24 : BitVec 32 := 0#32
  let v53 : BitVec 1 := Scalar.cmpi .ne v52 c0_i32_24
  v53

def k0_off3 (v21 : BitVec 32) (v22 : BitVec 32) (k0_t1 : Fin (k0_t1_loop v21 v22).trips) : Fin 2 → Nat :=
  let c1_i32_34 : BitVec 32 := 1#32
  let c1_i32_36 : BitVec 32 := 1#32
  let arg11 : BitVec 32 := Scf.iv c1_i32_34 c1_i32_36 k0_t1
  let c16_i32_38 : BitVec 32 := 16#32
  let v81 : BitVec 32 := Scalar.muli arg11 c16_i32_38
  let v82 : BitVec 32 := Scalar.addi v21 v81
  let v95 : Index := Scalar.indexCast v82
  let c0_42 : Index := 0#32
  ![v95.toNat, 0]
def k0_off4 (v21 : BitVec 32) (v22 : BitVec 32) (k0_t1 : Fin (k0_t1_loop v21 v22).trips) : Fin 2 → Nat :=
  let c1_i32_34 : BitVec 32 := 1#32
  let c1_i32_36 : BitVec 32 := 1#32
  let arg11 : BitVec 32 := Scf.iv c1_i32_34 c1_i32_36 k0_t1
  let c16_i32_38 : BitVec 32 := 16#32
  let v81 : BitVec 32 := Scalar.muli arg11 c16_i32_38
  let v82 : BitVec 32 := Scalar.addi v21 v81
  let v102 : Index := Scalar.indexCast v82
  let c0_44 : Index := 0#32
  ![v102.toNat, 0]
@[reducible] def k0_t2_loop (v21 : BitVec 32) (v22 : BitVec 32) : Scf.Loop 32 :=
  let c1_i32_34 : BitVec 32 := 1#32
  let v57 : BitVec 32 := Scalar.subi v22 v21
  let c0_i32_27 : BitVec 32 := 0#32
  let v59 : BitVec 1 := Scalar.cmpi .sgt v57 c0_i32_27
  let v60 : BitVec 32 := Scalar.extui v59
  let c0_i32_28 : BitVec 32 := 0#32
  let v61 : BitVec 1 := Scalar.cmpi .slt v57 c0_i32_28
  let v62 : BitVec 32 := Scalar.extui v61
  let v63 : BitVec 32 := Scalar.subi v60 v62
  let c16_i32_26 : BitVec 32 := 16#32
  let c0_i32_29 : BitVec 32 := 0#32
  let v64 : BitVec 1 := Scalar.cmpi .sgt c16_i32_26 c0_i32_29
  let v65 : BitVec 32 := Scalar.extui v64
  let c0_i32_30 : BitVec 32 := 0#32
  let v66 : BitVec 1 := Scalar.cmpi .slt c16_i32_26 c0_i32_30
  let v67 : BitVec 32 := Scalar.extui v66
  let v68 : BitVec 32 := Scalar.subi v65 v67
  let v69 : BitVec 1 := Scalar.cmpi .ne v63 v68
  let v70 : BitVec 32 := Scalar.remsi v57 c16_i32_26
  let c0_i32_31 : BitVec 32 := 0#32
  let v71 : BitVec 1 := Scalar.cmpi .ne v70 c0_i32_31
  let v72 : BitVec 1 := Scalar.andi v69 v71
  let v58 : BitVec 32 := Scalar.divsi v57 c16_i32_26
  let c1_i32 : BitVec 32 := 1#32
  let v73 : BitVec 32 := Scalar.subi v58 c1_i32
  let v74 : BitVec 32 := Scalar.select v72 v73 v58
  let c1_i32_32 : BitVec 32 := 1#32
  let v75 : BitVec 32 := Scalar.addi v74 c1_i32_32
  let v76 : BitVec 32 := Scalar.subi v75 c1_i32_34
  let c1_i32_35 : BitVec 32 := 1#32
  let v78 : BitVec 32 := Scalar.divsi v76 c1_i32_35
  let v79 : BitVec 32 := Scalar.muli v78 c1_i32_35
  let v80 : BitVec 32 := Scalar.addi c1_i32_34 v79
  let v77 : BitVec 32 := Scalar.addi c1_i32_34 v76
  let c1_i32_37 : BitVec 32 := 1#32
  ⟨v80, v77, c1_i32_37⟩
def k0_off5 (v21 : BitVec 32) (v22 : BitVec 32) (k0_t2 : Fin (k0_t2_loop v21 v22).trips) : Fin 2 → Nat :=
  let c1_i32_34 : BitVec 32 := 1#32
  let v57 : BitVec 32 := Scalar.subi v22 v21
  let c0_i32_27 : BitVec 32 := 0#32
  let v59 : BitVec 1 := Scalar.cmpi .sgt v57 c0_i32_27
  let v60 : BitVec 32 := Scalar.extui v59
  let c0_i32_28 : BitVec 32 := 0#32
  let v61 : BitVec 1 := Scalar.cmpi .slt v57 c0_i32_28
  let v62 : BitVec 32 := Scalar.extui v61
  let v63 : BitVec 32 := Scalar.subi v60 v62
  let c16_i32_26 : BitVec 32 := 16#32
  let c0_i32_29 : BitVec 32 := 0#32
  let v64 : BitVec 1 := Scalar.cmpi .sgt c16_i32_26 c0_i32_29
  let v65 : BitVec 32 := Scalar.extui v64
  let c0_i32_30 : BitVec 32 := 0#32
  let v66 : BitVec 1 := Scalar.cmpi .slt c16_i32_26 c0_i32_30
  let v67 : BitVec 32 := Scalar.extui v66
  let v68 : BitVec 32 := Scalar.subi v65 v67
  let v69 : BitVec 1 := Scalar.cmpi .ne v63 v68
  let v70 : BitVec 32 := Scalar.remsi v57 c16_i32_26
  let c0_i32_31 : BitVec 32 := 0#32
  let v71 : BitVec 1 := Scalar.cmpi .ne v70 c0_i32_31
  let v72 : BitVec 1 := Scalar.andi v69 v71
  let v58 : BitVec 32 := Scalar.divsi v57 c16_i32_26
  let c1_i32 : BitVec 32 := 1#32
  let v73 : BitVec 32 := Scalar.subi v58 c1_i32
  let v74 : BitVec 32 := Scalar.select v72 v73 v58
  let c1_i32_32 : BitVec 32 := 1#32
  let v75 : BitVec 32 := Scalar.addi v74 c1_i32_32
  let v76 : BitVec 32 := Scalar.subi v75 c1_i32_34
  let c1_i32_35 : BitVec 32 := 1#32
  let v78 : BitVec 32 := Scalar.divsi v76 c1_i32_35
  let v79 : BitVec 32 := Scalar.muli v78 c1_i32_35
  let v80 : BitVec 32 := Scalar.addi c1_i32_34 v79
  let c1_i32_37 : BitVec 32 := 1#32
  let arg11 : BitVec 32 := Scf.iv v80 c1_i32_37 k0_t2
  let c16_i32_38 : BitVec 32 := 16#32
  let v81 : BitVec 32 := Scalar.muli arg11 c16_i32_38
  let v82 : BitVec 32 := Scalar.addi v21 v81
  let v95 : Index := Scalar.indexCast v82
  let c0_42 : Index := 0#32
  ![v95.toNat, 0]
def k0_off6 (v21 : BitVec 32) (v22 : BitVec 32) (k0_t2 : Fin (k0_t2_loop v21 v22).trips) : Fin 2 → Nat :=
  let c1_i32_34 : BitVec 32 := 1#32
  let v57 : BitVec 32 := Scalar.subi v22 v21
  let c0_i32_27 : BitVec 32 := 0#32
  let v59 : BitVec 1 := Scalar.cmpi .sgt v57 c0_i32_27
  let v60 : BitVec 32 := Scalar.extui v59
  let c0_i32_28 : BitVec 32 := 0#32
  let v61 : BitVec 1 := Scalar.cmpi .slt v57 c0_i32_28
  let v62 : BitVec 32 := Scalar.extui v61
  let v63 : BitVec 32 := Scalar.subi v60 v62
  let c16_i32_26 : BitVec 32 := 16#32
  let c0_i32_29 : BitVec 32 := 0#32
  let v64 : BitVec 1 := Scalar.cmpi .sgt c16_i32_26 c0_i32_29
  let v65 : BitVec 32 := Scalar.extui v64
  let c0_i32_30 : BitVec 32 := 0#32
  let v66 : BitVec 1 := Scalar.cmpi .slt c16_i32_26 c0_i32_30
  let v67 : BitVec 32 := Scalar.extui v66
  let v68 : BitVec 32 := Scalar.subi v65 v67
  let v69 : BitVec 1 := Scalar.cmpi .ne v63 v68
  let v70 : BitVec 32 := Scalar.remsi v57 c16_i32_26
  let c0_i32_31 : BitVec 32 := 0#32
  let v71 : BitVec 1 := Scalar.cmpi .ne v70 c0_i32_31
  let v72 : BitVec 1 := Scalar.andi v69 v71
  let v58 : BitVec 32 := Scalar.divsi v57 c16_i32_26
  let c1_i32 : BitVec 32 := 1#32
  let v73 : BitVec 32 := Scalar.subi v58 c1_i32
  let v74 : BitVec 32 := Scalar.select v72 v73 v58
  let c1_i32_32 : BitVec 32 := 1#32
  let v75 : BitVec 32 := Scalar.addi v74 c1_i32_32
  let v76 : BitVec 32 := Scalar.subi v75 c1_i32_34
  let c1_i32_35 : BitVec 32 := 1#32
  let v78 : BitVec 32 := Scalar.divsi v76 c1_i32_35
  let v79 : BitVec 32 := Scalar.muli v78 c1_i32_35
  let v80 : BitVec 32 := Scalar.addi c1_i32_34 v79
  let c1_i32_37 : BitVec 32 := 1#32
  let arg11 : BitVec 32 := Scf.iv v80 c1_i32_37 k0_t2
  let c16_i32_38 : BitVec 32 := 16#32
  let v81 : BitVec 32 := Scalar.muli arg11 c16_i32_38
  let v82 : BitVec 32 := Scalar.addi v21 v81
  let v102 : Index := Scalar.indexCast v82
  let c0_44 : Index := 0#32
  ![v102.toNat, 0]

def k0_chk2 (v21 : BitVec 32) (v22 : BitVec 32) : Prop :=
  (∀ (k0_h2 : k0_cond2 v21 v22 = 1#1), (k0_t1_loop v21 v22).OK) ∧
  (∀ k0_t1 : Fin (k0_t1_loop v21 v22).trips, ∀ (k0_h2 : k0_cond2 v21 v22 = 1#1), ∀ a, (k0_off3 v21 v22 k0_t1) a + S16x1.size a ≤ S272x1.size a) ∧
  (∀ k0_t1 : Fin (k0_t1_loop v21 v22).trips, ∀ (k0_h2 : k0_cond2 v21 v22 = 1#1), ∀ a, (k0_off4 v21 v22 k0_t1) a + S16x128.size a ≤ S272x128.size a) ∧
  (∀ (k0_h2 : k0_cond2 v21 v22 = 1#1), (k0_t2_loop v21 v22).OK) ∧
  (∀ k0_t2 : Fin (k0_t2_loop v21 v22).trips, ∀ (k0_h2 : k0_cond2 v21 v22 = 1#1), ∀ a, (k0_off5 v21 v22 k0_t2) a + S16x1.size a ≤ S272x1.size a) ∧
  (∀ k0_t2 : Fin (k0_t2_loop v21 v22).trips, ∀ (k0_h2 : k0_cond2 v21 v22 = 1#1), ∀ a, (k0_off6 v21 v22 k0_t2) a + S16x128.size a ≤ S272x128.size a)
theorem k0_t1_ok : ∀ (v21 : BitVec 32) (v22 : BitVec 32) (k0_hw2 : k0_chk2 v21 v22), ∀ (k0_h2 : k0_cond2 v21 v22 = 1#1), (k0_t1_loop v21 v22).OK := fun v21 v22 k0_hw2 k0_h2 => k0_hw2.1 k0_h2
theorem k0_off3_inb : ∀ (v21 : BitVec 32) (v22 : BitVec 32) (k0_hw2 : k0_chk2 v21 v22) (k0_t1 : Fin (k0_t1_loop v21 v22).trips), ∀ (k0_h2 : k0_cond2 v21 v22 = 1#1), ∀ a, (k0_off3 v21 v22 k0_t1) a + S16x1.size a ≤ S272x1.size a := fun v21 v22 k0_hw2 k0_t1 k0_h2 => k0_hw2.2.1 k0_t1 k0_h2
theorem k0_off4_inb : ∀ (v21 : BitVec 32) (v22 : BitVec 32) (k0_hw2 : k0_chk2 v21 v22) (k0_t1 : Fin (k0_t1_loop v21 v22).trips), ∀ (k0_h2 : k0_cond2 v21 v22 = 1#1), ∀ a, (k0_off4 v21 v22 k0_t1) a + S16x128.size a ≤ S272x128.size a := fun v21 v22 k0_hw2 k0_t1 k0_h2 => k0_hw2.2.2.1 k0_t1 k0_h2
theorem k0_t2_ok : ∀ (v21 : BitVec 32) (v22 : BitVec 32) (k0_hw2 : k0_chk2 v21 v22), ∀ (k0_h2 : k0_cond2 v21 v22 = 1#1), (k0_t2_loop v21 v22).OK := fun v21 v22 k0_hw2 k0_h2 => k0_hw2.2.2.2.1 k0_h2
theorem k0_off5_inb : ∀ (v21 : BitVec 32) (v22 : BitVec 32) (k0_hw2 : k0_chk2 v21 v22) (k0_t2 : Fin (k0_t2_loop v21 v22).trips), ∀ (k0_h2 : k0_cond2 v21 v22 = 1#1), ∀ a, (k0_off5 v21 v22 k0_t2) a + S16x1.size a ≤ S272x1.size a := fun v21 v22 k0_hw2 k0_t2 k0_h2 => k0_hw2.2.2.2.2.1 k0_t2 k0_h2
theorem k0_off6_inb : ∀ (v21 : BitVec 32) (v22 : BitVec 32) (k0_hw2 : k0_chk2 v21 v22) (k0_t2 : Fin (k0_t2_loop v21 v22).trips), ∀ (k0_h2 : k0_cond2 v21 v22 = 1#1), ∀ a, (k0_off6 v21 v22 k0_t2) a + S16x128.size a ≤ S272x128.size a := fun v21 v22 k0_hw2 k0_t2 k0_h2 => k0_hw2.2.2.2.2.2 k0_t2 k0_h2

def k0_cond3 (i : grid0.Coords) : BitVec 1 :=
  let arg0 : BitVec 32 := BitVec.ofNat 32 (i 0).val
  let c24_i32 : BitVec 32 := 24#32
  let v54 : BitVec 1 := Scalar.cmpi .eq arg0 c24_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x4000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S100000x1 : Shape := ⟨2, ![100000, 1]⟩
abbrev S1x1 : Shape := ⟨2, ![1, 1]⟩
abbrev S_ : Shape := ⟨0, ![]⟩
abbrev S256 : Shape := ⟨1, ![256]⟩
abbrev S256x128 : Shape := ⟨2, ![256, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S100000x64, .f32⟩
  | .hbm, ⟨11, _⟩ => ⟨S100000x1, .f32⟩
  | .hbm, ⟨12, _⟩ => ⟨S1x1, .f32⟩
  | .hbm, ⟨13, _⟩ => ⟨S100000x1, .f32⟩
  | .hbm, ⟨14, _⟩ => ⟨S100000x1, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S256, .f32⟩
  | .hbm, ⟨19, _⟩ => ⟨S100000x1, .i32⟩
  | .hbm, ⟨20, _⟩ => ⟨S256, .f32⟩
  | .hbm, ⟨21, _⟩ => ⟨S_, .i32⟩
  | .hbm, ⟨22, _⟩ => ⟨S100000, .i32⟩
  | .hbm, ⟨23, _⟩ => ⟨S100000, .i1⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S100000, .i32⟩
  | .hbm, ⟨28, _⟩ => ⟨S100000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S256x128, .f32⟩
  | .hbm, ⟨39, _⟩ => ⟨S100000x1, .i32⟩
  | .hbm, ⟨40, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== ShiftedIdeal.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S100000x1 : Shape := ⟨2, ![100000, 1]⟩
abbrev S1x1 : Shape := ⟨2, ![1, 1]⟩
abbrev S1x100000 : Shape := ⟨2, ![1, 100000]⟩
abbrev S256 : Shape := ⟨1, ![256]⟩
abbrev S256x1 : Shape := ⟨2, ![256, 1]⟩
abbrev S256x100000 : Shape := ⟨2, ![256, 100000]⟩
abbrev S_ : Shape := ⟨0, ![]⟩
abbrev S256x128 : Shape := ⟨2, ![256, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S100000x64, .f32⟩
  | .hbm, ⟨11, _⟩ => ⟨S100000x1, .f32⟩
  | .hbm, ⟨12, _⟩ => ⟨S1x1, .f32⟩
  | .hbm, ⟨13, _⟩ => ⟨S100000x1, .f32⟩
  | .hbm, ⟨14, _⟩ => ⟨S100000x1, .f32⟩
  | .hbm, ⟨15, _⟩ => ⟨S100000, .f32⟩
  | .hbm, ⟨16, _⟩ => ⟨S1x100000, .i32⟩
  | .hbm, ⟨17, _⟩ => ⟨S256, .i32⟩
  | .hbm, ⟨18, _⟩ => ⟨S256x1, .i32⟩
  | .hbm, ⟨19, _⟩ => ⟨S256x100000, .i32⟩
  | .hbm, ⟨20, _⟩ => ⟨S256x100000, .i32⟩
  | .hbm, ⟨21, _⟩ => ⟨S256x100000, .i1⟩
  | .hbm, ⟨22, _⟩ => ⟨S1x100000, .f32⟩
  | .hbm, ⟨23, _⟩ => ⟨S_, .f32⟩
  | .hbm, ⟨24, _⟩ => ⟨S_, .f32⟩
  | .hbm, ⟨25, _⟩ => ⟨S256x100000, .f32⟩
  | .hbm, ⟨26, _⟩ => ⟨S256x100000, .f32⟩
  | .hbm, ⟨27, _⟩ => ⟨S256x100000, .f32⟩
  | .hbm, ⟨28, _⟩ => ⟨S_, .f32⟩
  | .hbm, ⟨29, _⟩ => ⟨S256, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S256, .f32⟩
  | .hbm, ⟨43, _⟩ => ⟨S100000x1, .i32⟩
  | .hbm, ⟨44, _⟩ => ⟨S256, .f32⟩
  | .hbm, ⟨45, _⟩ => ⟨S_, .i32⟩
  | .hbm, ⟨46, _⟩ => ⟨S100000, .i32⟩
  | .hbm, ⟨47, _⟩ => ⟨S100000, .i1⟩
  | .hbm, ⟨48, _⟩ => ⟨S_, .i32⟩
  | .hbm, ⟨49, _⟩ => ⟨S100000, .i32⟩
  | .hbm, ⟨50, _⟩ => ⟨S100000, .i32⟩
  | .hbm, ⟨51, _⟩ => ⟨S100000, .i32⟩
  | .hbm, ⟨52, _⟩ => ⟨S100000x1, .i32⟩
  | .hbm, ⟨53, _⟩ => ⟨S100000, .f32⟩
  | .hbm, ⟨54, _⟩ => ⟨S100000, .f32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S256x128, .f32⟩
  | .hbm, ⟨66, _⟩ => ⟨S100000x1, .i32⟩
  | .hbm, ⟨67, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.Words.lean ====
/-
  Hand-written, untrusted. The two segment-id words a grid step reads (the first and the last id of its block of rows)
  decide how far the window sweep of that step runs. Here, for words `a ≤ b < 256`: the sweep's trip count is
  `(b - a) / 16`, the row word of window `k` is `a + 16 k` without wrapping, the remainder loop runs no trip, and the side
  conditions the body assumes of the two words hold (these for any two words below 256, ordered or not).
-/
module

public import proofs.«01_k».proof.Proof.Gen.KernelIdeal.Skeleton

@[expose] public section

noncomputable section

namespace Cert.KernelIdeal.Pool

open Cert.KernelIdeal Cert.KernelIdeal.Gen
open Idealize.ShloMosaic

/-- The row word of window `k + 1` of the sweep that starts at word `a`: `a + (1 + k) * 16`, in 32-bit words. -/
def rowWord (a : BitVec 32) (k : ℕ) : BitVec 32 := Scalar.addi a (Scalar.muli (Scf.iv 1#32 1#32 k) 16#32)

/-- The sweep's upper bound as a function of the difference of the two words, as the kernel computes it. -/
def ubOf (d : BitVec 32) : BitVec 32 :=
  let v74 := Scalar.select (Scalar.andi (Scalar.cmpi .ne (Scalar.subi (Scalar.extui (Scalar.cmpi .sgt d 0#32)) (Scalar.extui (Scalar.cmpi .slt d 0#32)))
      (Scalar.subi (Scalar.extui (Scalar.cmpi .sgt 16#32 0#32)) (Scalar.extui (Scalar.cmpi .slt 16#32 0#32))))
      (Scalar.cmpi .ne (Scalar.remsi d 16#32) 0#32)) (Scalar.subi (Scalar.divsi d 16#32) 1#32) (Scalar.divsi d 16#32)
  Scalar.addi 1#32 (Scalar.muli (Scalar.divsi (Scalar.subi (Scalar.addi v74 1#32) 1#32) 1#32) 1#32)

/-- The second loop's upper bound, likewise. -/
def ubOf2 (d : BitVec 32) : BitVec 32 :=
  let v74 := Scalar.select (Scalar.andi (Scalar.cmpi .ne (Scalar.subi (Scalar.extui (Scalar.cmpi .sgt d 0#32)) (Scalar.extui (Scalar.cmpi .slt d 0#32)))
      (Scalar.subi (Scalar.extui (Scalar.cmpi .sgt 16#32 0#32)) (Scalar.extui (Scalar.cmpi .slt 16#32 0#32))))
      (Scalar.cmpi .ne (Scalar.remsi d 16#32) 0#32)) (Scalar.subi (Scalar.divsi d 16#32) 1#32) (Scalar.divsi d 16#32)
  Scalar.addi 1#32 (Scalar.subi (Scalar.addi v74 1#32) 1#32)

theorem t1_loop_eq (a b : BitVec 32) : k0_t1_loop a b = ⟨1#32, ubOf (b - a), 1#32⟩ := rfl
theorem t2_loop_eq (a b : BitVec 32) : k0_t2_loop a b = ⟨ubOf (b - a), ubOf2 (b - a), 1#32⟩ := rfl

set_option maxRecDepth 100000 in
/-- For every difference below 256 both bounds are one plus its quotient by 16. -/
theorem ubOf_small : ∀ d : Fin 256, ubOf (BitVec.ofNat 32 d.val) = BitVec.ofNat 32 (1 + d.val / 16)
    ∧ ubOf2 (BitVec.ofNat 32 d.val) = BitVec.ofNat 32 (1 + d.val / 16) := by decide

variable {a b : BitVec 32}

theorem sub_word (hab : a.toNat ≤ b.toNat) (hb : b.toNat < 256) : b - a = BitVec.ofNat 32 (b.toNat - a.toNat) := by
  apply BitVec.eq_of_toNat_eq
  rw [BitVec.toNat_sub, BitVec.toNat_ofNat]
  omega

/-- Loop bounds of ordered words below 256. -/
theorem ubOf_sub (hab : a.toNat ≤ b.toNat) (hb : b.toNat < 256) : ubOf (b - a) = BitVec.ofNat 32 (1 + (b.toNat - a.toNat) / 16)
    ∧ ubOf2 (b - a) = BitVec.ofNat 32 (1 + (b.toNat - a.toNat) / 16) := by
  rw [sub_word hab hb]
  exact ubOf_small ⟨b.toNat - a.toNat, by omega⟩

theorem toInt_small {n : ℕ} (h : n < 1000) : (BitVec.ofNat 32 n).toInt = n := by
  rw [BitVec.toInt_eq_toNat_of_lt, BitVec.toNat_ofNat]
  · rw [Nat.mod_eq_of_lt]; omega
  · rw [BitVec.toNat_ofNat]; omega

/-- The sweep after the first window runs `(b - a) / 16` trips. -/
theorem t1_trips (hab : a.toNat ≤ b.toNat) (hb : b.toNat < 256) : (k0_t1_loop a b).trips = (b.toNat - a.toNat) / 16 := by
  rw [t1_loop_eq]
  show Scf.trips 1#32 (ubOf (b - a)) 1#32 = _
  rw [(ubOf_sub hab hb).1]
  unfold Scf.trips
  rw [toInt_small (by omega), show (1#32 : BitVec 32).toInt = 1 from rfl]
  omega

/-- The remainder loop runs no trip. -/
theorem t2_trips (hab : a.toNat ≤ b.toNat) (hb : b.toNat < 256) : (k0_t2_loop a b).trips = 0 := by
  rw [t2_loop_eq]
  show Scf.trips (ubOf (b - a)) (ubOf2 (b - a)) 1#32 = _
  rw [(ubOf_sub hab hb).1, (ubOf_sub hab hb).2]
  unfold Scf.trips
  rw [show (1#32 : BitVec 32).toInt = 1 from rfl]
  omega

/-- The row word of window `k + 1` is `a + 16 (k + 1)`, with no wrap-around. -/
theorem rowWord_toNat {k : ℕ} (ha : a.toNat < 256) (hk : k < 16) : (rowWord a k).toNat = a.toNat + 16 * (k + 1) := by
  unfold rowWord Scf.iv Scalar.addi Scalar.muli IntOp.addi IntOp.muli
  simp only [BitVec.toNat_add, BitVec.toNat_mul, BitVec.toNat_ofNat]
  omega

/-- Whether the sweep goes beyond the first window. -/
theorem cond2_iff (ha : a.toNat < 256) (hb : b.toNat < 256) : k0_cond2 a b = 1#1 ↔ a.toNat + 16 ≤ b.toNat := by
  unfold k0_cond2
  have e : (Scalar.addi a 16#32).toNat = a.toNat + 16 := by
    show (a + 16#32).toNat = _
    simp only [BitVec.toNat_add, BitVec.toNat_ofNat]; omega
  have hle : (Scalar.addi a 16#32).sle b = decide (a.toNat + 16 ≤ b.toNat) := by
    unfold BitVec.sle
    rw [BitVec.toInt_eq_toNat_of_lt (by omega), BitVec.toInt_eq_toNat_of_lt (by omega), e]
    simp only [Nat.cast_le]
  show Scalar.cmpi .ne (Scalar.extui (BitVec.ofBool ((Scalar.addi a 16#32).sle b))) 0#32 = 1#1 ↔ _
  rw [hle]
  by_cases h : a.toNat + 16 ≤ b.toNat
  · simp only [h, decide_true, iff_true]; decide
  · simp only [h, decide_false, iff_false]; decide

/-- The first window lies inside the accumulators. -/
theorem chk1_of (ha : a.toNat < 256) : k0_chk1 a := by
  have h1 : k0_off1 a = ![a.toNat, 0] := rfl
  have h2 : k0_off2 a = ![a.toNat, 0] := rfl
  unfold k0_chk1
  rw [h1, h2]
  exact ⟨Fin.forall_fin_two.mpr ⟨show a.toNat + 16 ≤ 272 by omega, show 0 + 1 ≤ 1 by omega⟩,
    Fin.forall_fin_two.mpr ⟨show a.toNat + 16 ≤ 272 by omega, show 0 + 128 ≤ 128 by omega⟩⟩

theorem off3_eq (k : Fin (k0_t1_loop a b).trips) : k0_off3 a b k = ![(rowWord a k.val).toNat, 0] := rfl
theorem off4_eq (k : Fin (k0_t1_loop a b).trips) : k0_off4 a b k = ![(rowWord a k.val).toNat, 0] := rfl

/-- The later windows lie inside the accumulators, and both loops have a meaning, for any two words below 256: where the second is
    not 16 or more above the first, the sweep ends with the first window. -/
theorem chk2_of (ha : a.toNat < 256) (hb : b.toNat < 256) : k0_chk2 a b := by
  have far : k0_cond2 a b = 1#1 → a.toNat ≤ b.toNat := fun h => by have := (cond2_iff ha hb).1 h; omega
  have hrow : ∀ k : Fin (k0_t1_loop a b).trips, k0_cond2 a b = 1#1 → (rowWord a k.val).toNat + 16 ≤ 272 := fun k h => by
    have hk := k.isLt
    have := t1_trips (far h) hb
    have := far h
    rw [rowWord_toNat (by omega) (by omega)]
    omega
  have hno : ∀ k : Fin (k0_t2_loop a b).trips, k0_cond2 a b = 1#1 → False := fun k h => by
    have hk := k.isLt
    have := t2_trips (far h) hb
    omega
  unfold k0_chk2
  refine ⟨fun h => ?_, fun k h => ?_, fun k h => ?_, fun h => ?_, fun k h => (hno k h).elim, fun k h => (hno k h).elim⟩
  · refine ⟨show (0 : ℤ) < (1#32 : BitVec 32).toInt by decide, ?_⟩
    have := t1_trips (far h) hb
    show (1#32 : BitVec 32).toInt + (((k0_t1_loop a b).trips : ℕ) : ℤ) * (1#32 : BitVec 32).toInt < 2 ^ 31
    rw [this, show (1#32 : BitVec 32).toInt = 1 from rfl]
    omega
  · rw [off3_eq]
    exact Fin.forall_fin_two.mpr ⟨show (rowWord a k.val).toNat + 16 ≤ 272 from hrow k h, show 0 + 1 ≤ 1 by omega⟩
  · rw [off4_eq]
    exact Fin.forall_fin_two.mpr ⟨show (rowWord a k.val).toNat + 16 ≤ 272 from hrow k h, show 0 + 128 ≤ 128 by omega⟩
  · refine ⟨show (0 : ℤ) < (1#32 : BitVec 32).toInt by decide, ?_⟩
    have := t2_trips (far h) hb
    show (ubOf (b - a)).toInt + (((k0_t2_loop a b).trips : ℕ) : ℤ) * (1#32 : BitVec 32).toInt < 2 ^ 31
    rw [this, (ubOf_sub (far h) hb).1, toInt_small (by omega)]
    omega

end Cert.KernelIdeal.Pool

end
-- ==== Proof.Sweep.lean ====
/-
  Hand-written, untrusted. What one grid step does to the two accumulators, as plain functions of their values. A step reads
  its block of rows `x`, their segment ids, the weights `W1` and the row `W2`, and the words `a` (first id) and `b` (last id);
  it then visits windows of sixteen segments, the first at row `a`, the next ones sixteen rows apart, and adds to the window's
  rows what the block's rows with these ids contribute.
-/
module

public import proofs.«01_k».proof.Proof.Words
public import Idealize.ShloMosaic.Lib.VecWindow

@[expose] public section

noncomputable section

namespace Cert.KernelIdeal.Pool

open Cert.KernelIdeal Cert.KernelIdeal.Gen
open Idealize.ShloMosaic

variable {F : FTy → Type} [FloatOps F]

/-- The accumulators: weighted rows per segment, and weights per segment. -/
abbrev St (F : FTy → Type) : Type := (S272x128.Idx → Elt F .f32) × (S272x1.Idx → Elt F .f32)

/-- Rows `o` to `o + 15` of the weighted rows (zero where they do not all exist). -/
def rowsA (A : S272x128.Idx → Elt F .f32) (o : ℕ) : Vec F S16x128 .f32 :=
  if h : ∀ d, (![o, 0] : Fin 2 → ℕ) d + S16x128.size d ≤ S272x128.size d then VecWindow.window (s := S272x128) A ![o, 0] S16x128.size h
  else fun _ => Scalar.ofBits .f32 0x00000000#32

/-- Rows `o` to `o + 15` of the weights. -/
def rowsS (S : S272x1.Idx → Elt F .f32) (o : ℕ) : Vec F S16x1 .f32 :=
  if h : ∀ d, (![o, 0] : Fin 2 → ℕ) d + S16x1.size d ≤ S272x1.size d then VecWindow.window (s := S272x1) S ![o, 0] S16x1.size h
  else fun _ => Scalar.ofBits .f32 0x00000000#32

/-- The sixteen row numbers of a window. -/
def rowNos : IVec S16x4000 32 := iota .tc S16x4000 32 [0] iota_S16x4000_d0_w32

/-- The window's table of weights: at row `r`, column `j` the weight of block row `j` where its id is `w + r`, zero elsewhere. -/
def hot (v6 : IVec S1x4000 32) (v20 : FVec F S1x4000 .f32) (w : BitVec 32) : FVec F S16x4000 .f32 :=
  select (cmpi .eq rowNos (broadcastTo S16x4000 (subi v6 (broadcast S1x4000 w)) broadcasts_S1x4000_S16x4000))
    (broadcastTo S16x4000 (shapeCast S1x4000 v20 shapeCasts_S1x4000_S1x4000) broadcasts_S1x4000_S16x4000)
    (broadcast S16x4000 (Scalar.ofBits .f32 0x00000000#32))

/-- The sums of the window's table along its rows. -/
def hotSum (v6 : IVec S1x4000 32) (v20 : FVec F S1x4000 .f32) (w : BitVec 32) : FVec F S16 .f32 :=
  multiReduction .add [1] S16 (hot v6 v20 w) 0x00000000#32 reduces_S16x4000_S16 (.inl rfl) rfl

/-- One window at row word `w`: its rows of both accumulators grow by the block's contribution. -/
def visit (v4 : FVec F S4000x128 .bf16) (v6 : IVec S1x4000 32) (v20 : FVec F S1x4000 .f32) (w : BitVec 32) (st : St F) : St F :=
  (VecWindow.put (s := S272x128) st.1 ![w.toNat, 0] S16x128.size (k0_pay2 v4 (hot v6 v20 w) (rowsA st.1 w.toNat)),
    VecWindow.put (s := S272x1) st.2 ![w.toNat, 0] S16x1.size (k0_pay1 (hotSum v6 v20 w) (rowsS st.2 w.toNat)))

/-- The `n` windows after the first, one after another. -/
def later (v4 : FVec F S4000x128 .bf16) (v6 : IVec S1x4000 32) (v20 : FVec F S1x4000 .f32) (a : BitVec 32) (st : St F) : ℕ → St F
  | 0 => st
  | k + 1 => visit v4 v6 v20 (rowWord a k) (later v4 v6 v20 a st k)

/-- A whole step: the first window, then as many more as the last id asks for. -/
def stepSt (x : Vec F S4000x128 .f32) (ids : Vec F S1x1x4000 .i32) (w1 : Vec F S128x64 .f32) (w2 : Vec F S1x64 .f32) (a b : BitVec 32) (st : St F) : St F :=
  later (k0_pay12 x) (k0_pay13 ids) (k0_pay14 x w1 w2) a (visit (k0_pay12 x) (k0_pay13 ids) (k0_pay14 x w1 w2) a st)
    (if k0_cond2 a b = 1#1 then (k0_t1_loop a b).trips else 0)

/-- Both accumulators filled with zeros. -/
def zeroSt : St F := (k0_pay10, k0_pay11)

/-- The quotient the last step stores: rows 0 to 255 of the weighted rows over the weights plus the small constant. -/
def quot (st : St F) : FVec F S256x128 .f32 :=
  k0_pay9 (VecWindow.window (s := S272x128) st.1 ![0, 0] S256x128.size inb_S272x128_S256x128_0_0)
    (VecWindow.window (s := S272x1) st.2 ![0, 0] S256x1.size inb_S272x1_S256x1_0_0)

theorem rowsA_of (A : S272x128.Idx → Elt F .f32) (o : ℕ) (h : ∀ d, (![o, 0] : Fin 2 → ℕ) d + S16x128.size d ≤ S272x128.size d) :
    rowsA A o = VecWindow.window (s := S272x128) A ![o, 0] S16x128.size h := dif_pos h

theorem rowsS_of (S : S272x1.Idx → Elt F .f32) (o : ℕ) (h : ∀ d, (![o, 0] : Fin 2 → ℕ) d + S16x1.size d ≤ S272x1.size d) :
    rowsS S o = VecWindow.window (s := S272x1) S ![o, 0] S16x1.size h := dif_pos h

/-! ## The printed payloads are these -/

theorem pay15_eq (v3 : Vec F S4000x128 .f32) (v5 : Vec F S1x1x4000 .i32) (v7 : Vec F S128x64 .f32) (v12 : Vec F S1x64 .f32) (a : BitVec 32) :
    k0_pay15 v3 v5 v7 v12 a = hot (k0_pay13 v5) (k0_pay14 v3 v7 v12) a := rfl

theorem pay16_eq (v3 : Vec F S4000x128 .f32) (v5 : Vec F S1x1x4000 .i32) (v7 : Vec F S128x64 .f32) (v12 : Vec F S1x64 .f32) (a : BitVec 32) :
    k0_pay16 v3 v5 v7 v12 a = hotSum (k0_pay13 v5) (k0_pay14 v3 v7 v12) a := rfl

theorem pay4_eq (v6 : IVec S1x4000 32) (v20 : FVec F S1x4000 .f32) (a b : BitVec 32) (k : Fin (k0_t1_loop a b).trips) (v : Vec F S16x1 .f32) :
    k0_pay4 v6 v20 a b rowNos k v = k0_pay1 (hotSum v6 v20 (rowWord a k.val)) v := rfl

theorem pay5_eq (v4 : FVec F S4000x128 .bf16) (v6 : IVec S1x4000 32) (v20 : FVec F S1x4000 .f32) (a b : BitVec 32) (k : Fin (k0_t1_loop a b).trips) (v : Vec F S16x128 .f32) :
    k0_pay5 v4 v6 v20 a b rowNos k v = k0_pay2 v4 (hot v6 v20 (rowWord a k.val)) v := rfl

end Cert.KernelIdeal.Pool

end
-- ==== Proof.Loops.lean ====
/-
  Hand-written, untrusted. The two counted loops of a step by their invariants. The sweep over the windows after the first:
  before trip `k` the accumulators hold what `later` says after `k` windows. The remainder loop runs no trip, so what the
  accumulators hold it leaves.
-/
module

public import proofs.«01_k».proof.Proof.Sweep
public import proofs.«01_k».proof.Proof.Gen.KernelIdeal.Loops
public import Idealize.ShloMosaic.Lib.Exec
public import Idealize.ShloMosaic.Lib.Tactic

@[expose] public section

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Both accumulators held whole, reading `st`. -/
abbrev holds (c : Dev nD) (arg9 : Memref sig .tc .vmem S272x128 .f32) (arg10 : Memref sig .tc .vmem S272x1 .f32) (st : St F) : sProp 𝕄 :=
  iprop((∃ f, (arg9.view.loc (c : Thread nD τ) ↦[arg9.view.set]{fullShare} f) ∗ ⌜arg9.view.read (Elt F) f = st.1⌝)
    ∗ (∃ f, (arg10.view.loc (c : Thread nD τ) ↦[arg10.view.set]{fullShare} f) ∗ ⌜arg10.view.read (Elt F) f = st.2⌝))

section Trip

variable (𝒱 : Variants) (c : Dev nD) (bd : Option 𝒱.V) (E : Set ℕ)
  (i : grid0.Coords) (arg1 : Memref sig .tc .vmem S4000x128 .f32) (harg1 : arg1.IsWhole) (arg2 : Memref sig .tc .vmem S1x1x4000 .i32) (harg2 : arg2.IsWhole) (arg3 : Memref sig .tc .smem S1x1x4000 .i32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x1 .f32) (harg7 : arg7.IsWhole) (arg8 : Memref sig .tc .vmem S256x128 .f32) (harg8 : arg8.IsWhole)
  (arg9 : Memref sig .tc .vmem S272x128 .f32) (harg9 : arg9.IsWhole) (arg10 : Memref sig .tc .vmem S272x1 .f32) (harg10 : arg10.IsWhole)
  (v4 : FVec F S4000x128 .bf16) (v6 : IVec S1x4000 32) (v20 : FVec F S1x4000 .f32) (v21 : Elt F .i32) (v22 : Elt F .i32) (k0_hw2 : k0_chk2 v21 v22) (k0_h2 : k0_cond2 v21 v22 = 1#1)

/-- One trip of the sweep visits one window. -/
theorem trip_run (k : Fin (k0_t1_loop v21 v22).trips) (st : St F) :
    holds c arg9 arg10 st
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 v4 v6 v20 v21 v22 k0_hw2 rowNos k0_h2 k PUnit.unit)
          (fun _ => holds c arg9 arg10 (visit v4 v6 v20 (rowWord v21 k.val) st)) := by
  unfold holds k0_t1_body
  iintro ⟨⟨%f9, H9, %h9⟩, ⟨%f10, H10, %h10⟩⟩
  sl_exec
  sl_step
  isplitl [H9]
  · iexists _; isplitl [H9]; · iexact H9
    ipureintro
    rw [View.read_writes_cons_put _ _ _ _ _ (off4_eq k), View.writes_nil, View.readAt_unit _ _ _ (off4_eq k) (by rw [← off4_eq k]; exact k0_off4_inb v21 v22 k0_hw2 k k0_h2), h9, pay5_eq]
    unfold visit
    rw [rowsA_of _ _ (by rw [← off4_eq k]; exact k0_off4_inb v21 v22 k0_hw2 k k0_h2)]
  · iexists _; isplitl [H10]; · iexact H10
    ipureintro
    rw [View.read_writes_cons_put _ _ _ _ _ (off3_eq k), View.writes_nil, View.readAt_unit _ _ _ (off3_eq k) (by rw [← off3_eq k]; exact k0_off3_inb v21 v22 k0_hw2 k k0_h2), h10, pay4_eq]
    unfold visit
    rw [rowsS_of _ _ (by rw [← off3_eq k]; exact k0_off3_inb v21 v22 k0_hw2 k k0_h2)]

set_option warn.classDefReducibility false in
/-- The sweep by its invariant: before trip `k` the accumulators hold `later` at `k`, from what they hold at its start. -/
@[sl_loop] def sweepInv (st : St F) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 v4 v6 v20 v21 v22 k0_hw2 rowNos k0_h2 where
  inv k _ := holds c arg9 arg10 (later v4 v6 v20 v21 st k)
  step k _ := trip_run 𝒱 c bd E i arg1 harg1 arg2 harg2 arg3 harg3 arg4 harg4 arg5 harg5 arg6 harg6 arg7 harg7 arg8 harg8 arg9 harg9 arg10 harg10 v4 v6 v20 v21 v22 k0_hw2 k0_h2 k (later v4 v6 v20 v21 st k.val)

end Trip

end Cert.KernelIdeal.Pool

end
-- ==== Proof.Run.lean ====
/-
  Hand-written, untrusted. The kernel's body run once at a grid step, on any staging buffers: it leaves every input block as it
  is, the accumulators as `stepSt` says (from zeros at the first step), and at the last step the quotient in the output block.
-/
module

public import proofs.«01_k».proof.Proof.Loops
public import Idealize.ShloMosaic.Lib.LoopRemainder
public import Idealize.ShloMosaic.Lib.Pipeline.FrameBody

@[expose] public section

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first id of a block. -/
def firstId (I : Vec F S1x1x4000 .i32) : BitVec 32 :=
  I ((Rect.unit (s := S1x1x4000) ![0, 0, 0] S1x1x1.size inb_S1x1x4000_S1x1x1_0_0_0).toLoadRect.idx (Shape.Idx.first (by decide)))

/-- The last id of a block. -/
def lastId (I : Vec F S1x1x4000 .i32) : BitVec 32 :=
  I ((Rect.unit (s := S1x1x4000) ![0, 0, 3999] S1x1x1.size inb_S1x1x4000_S1x1x1_0_0_3999).toLoadRect.idx (Shape.Idx.first (by decide)))

/-- Whether a step is the first one, as the kernel computes it. -/
def cond1 (i : grid0.Coords) : BitVec 1 :=
  Scalar.cmpi .ne (Scalar.extui (Scalar.cmpi .eq (BitVec.ofNat 32 (i 0).val) 0#32)) 0#32

/-- What the accumulators hold after a step that found `st`: the first step starts from zeros. -/
def afterSt (i : grid0.Coords) (x : Vec F S4000x128 .f32) (I J : Vec F S1x1x4000 .i32) (w1 : Vec F S128x64 .f32) (w2 : Vec F S1x64 .f32) (st : St F) : St F :=
  stepSt x I w1 w2 (firstId J) (lastId J) (if cond1 i = 1#1 then zeroSt else st)

theorem off1_eq (a : BitVec 32) : k0_off1 a = ![a.toNat, 0] := rfl

theorem off2_eq (a : BitVec 32) : k0_off2 a = ![a.toNat, 0] := rfl

/-- A window's store into the weighted rows, over contents that read `st.1`, leaves what `visit` says. -/
theorem visit9 (m : Memref sig .tc .vmem S272x128 .f32) (f g : m.view.ty.Contents (Elt F)) (L : List (View.Piece (Elt F) S272x128 .f32))
    (v4 : FVec F S4000x128 .bf16) (v6 : IVec S1x4000 32) (v20 : FVec F S1x4000 .f32) (a : BitVec 32) (v31 : FVec F S16x4000 .f32)
    (inb : ∀ d, k0_off2 a d + S16x128.size d ≤ S272x128.size d) (st : St F)
    (hf : m.view.read (Elt F) (m.view.writes (Elt F) f L) = st.1) (hg : m.view.read (Elt F) g = st.1) (hv : v31 = hot v6 v20 a) :
    m.view.read (Elt F) (m.view.writes (Elt F) f (⟨Rect.unit (k0_off2 a) S16x128.size inb,
        k0_pay2 v4 v31 (m.view.readAt (Elt F) (Rect.unit (s := S272x128) (k0_off2 a) S16x128.size inb).toLoadRect g)⟩ :: L))
      = (visit v4 v6 v20 a st).1 := by
  have inb' : ∀ d, (![a.toNat, 0] : Fin 2 → ℕ) d + S16x128.size d ≤ S272x128.size d := inb
  rw [View.read_writes_cons_put _ _ _ _ _ (off2_eq a), View.readAt_unit _ _ _ (off2_eq a) inb', hf, hg, hv]
  unfold visit
  rw [rowsA_of _ _ inb']

/-- A window's store into the weights, over contents that read `st.2`, leaves what `visit` says. -/
theorem visit10 (m : Memref sig .tc .vmem S272x1 .f32) (f g : m.view.ty.Contents (Elt F)) (L : List (View.Piece (Elt F) S272x1 .f32))
    (v4 : FVec F S4000x128 .bf16) (v6 : IVec S1x4000 32) (v20 : FVec F S1x4000 .f32) (a : BitVec 32) (v32 : FVec F S16 .f32)
    (inb : ∀ d, k0_off1 a d + S16x1.size d ≤ S272x1.size d) (st : St F)
    (hf : m.view.read (Elt F) (m.view.writes (Elt F) f L) = st.2) (hg : m.view.read (Elt F) g = st.2) (hv : v32 = hotSum v6 v20 a) :
    m.view.read (Elt F) (m.view.writes (Elt F) f (⟨Rect.unit (k0_off1 a) S16x1.size inb,
        k0_pay1 v32 (m.view.readAt (Elt F) (Rect.unit (s := S272x1) (k0_off1 a) S16x1.size inb).toLoadRect g)⟩ :: L))
      = (visit v4 v6 v20 a st).2 := by
  have inb' : ∀ d, (![a.toNat, 0] : Fin 2 → ℕ) d + S16x1.size d ≤ S272x1.size d := inb
  rw [View.read_writes_cons_put _ _ _ _ _ (off1_eq a), View.readAt_unit _ _ _ (off1_eq a) inb', hf, hg, hv]
  unfold visit
  rw [rowsS_of _ _ inb']

section Run

variable (𝒱 : Variants) (c : Dev nD) (bd : Option 𝒱.V) (E : Set ℕ)
  (i : grid0.Coords) (arg1 : Memref sig .tc .vmem S4000x128 .f32) (harg1 : arg1.IsWhole) (arg2 : Memref sig .tc .vmem S1x1x4000 .i32) (harg2 : arg2.IsWhole) (arg3 : Memref sig .tc .smem S1x1x4000 .i32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x1 .f32) (harg7 : arg7.IsWhole) (arg8 : Memref sig .tc .vmem S256x128 .f32) (harg8 : arg8.IsWhole)
  (arg9 : Memref sig .tc .vmem S272x128 .f32) (harg9 : arg9.IsWhole) (arg10 : Memref sig .tc .vmem S272x1 .f32) (harg10 : arg10.IsWhole)

/-- The body's run at a step, for any continuation. -/
theorem kernelRun (x : Vec F S4000x128 .f32) (I J : Vec F S1x1x4000 .i32) (w1 : Vec F S128x64 .f32) (w2 : Vec F S1x64 .f32) (d : Vec F S256x128 .f32) (st : St F)
    (ha : (firstId J).toNat < 256) (hb : (lastId J).toNat < 256) (K : PUnit → sProp 𝕄) :
    iprop(owns (c : Thread nD τ) arg1 fullShare x ∗ owns (c : Thread nD τ) arg2 fullShare I ∗ owns (c : Thread nD τ) arg3 fullShare J
        ∗ owns (c : Thread nD τ) arg4 fullShare w1 ∗ owns (c : Thread nD τ) arg6 fullShare w2 ∗ owns (c : Thread nD τ) arg8 fullShare d
        ∗ holds c arg9 arg10 st
        ∗ (iprop(owns (c : Thread nD τ) arg1 fullShare x ∗ owns (c : Thread nD τ) arg2 fullShare I ∗ owns (c : Thread nD τ) arg3 fullShare J
            ∗ owns (c : Thread nD τ) arg4 fullShare w1 ∗ owns (c : Thread nD τ) arg6 fullShare w2
            ∗ owns (c : Thread nD τ) arg8 fullShare (if k0_cond3 i = 1#1 then quot (afterSt i x I J w1 w2 st) else d)
            ∗ holds c arg9 arg10 (afterSt i x I J w1 w2 st)) -∗ K ⟨⟩))
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10) K := by
  simp only [cc0__body_eq_skeleton, k0_part1_eq_skeleton]; unfold cc0__body_skel
  unfold owns holds
  iintro ⟨⟨%f1, %h1, H1⟩, ⟨%f2, %h2, H2⟩, ⟨%f3, %h3, H3⟩, ⟨%f4, %h4, H4⟩, ⟨%f6, %h6, H6⟩, ⟨%f8, %h8, H8⟩, ⟨⟨%f9, H9, %h9⟩, ⟨%f10, H10, %h10⟩⟩, Hk⟩
  subst h3
  by_cases hc1 : cond1 i = 1#1
  · sl_exec
    have ha1 : kernelRun.sl.r c arg3 f3 = firstId (F := F) (arg3.view.read (Elt F) f3) := rfl
    have hck1 : k0_chk1 (kernelRun.sl.r c arg3 f3) := by rw [ha1]; exact chk1_of ha
    sl_exec
    have ha2 : kernelRun.sl.r_1 c arg3 f3 = lastId (F := F) (arg3.view.read (Elt F) f3) := rfl
    have hck2 : k0_chk2 (kernelRun.sl.r c arg3 f3) (kernelRun.sl.r_1 c arg3 f3) := by rw [ha1, ha2]; exact chk2_of ha hb
    by_cases hc2 : k0_cond2 (kernelRun.sl.r c arg3 f3) (kernelRun.sl.r_1 c arg3 f3) = 1#1
    · sl_exec
      have hv4 : kernelRun.sl.r_2 c arg1 f1 = k0_pay12 x := by rw [← h1]; exact congrArg _ (View.readAt_full ..)
      have hv6 : kernelRun.sl.r_3 c arg2 f2 = k0_pay13 I := by rw [← h2]; exact congrArg _ (View.readAt_full ..)
      have hv20 : kernelRun.sl.r_4 c arg1 arg4 arg6 f1 f4 f6 = k0_pay14 x w1 w2 := by
        rw [← h1, ← h4, ← h6]; unfold kernelRun.sl.r_4; rw [View.readAt_full, View.readAt_full, View.readAt_full]
      have hst : afterSt i x I (arg3.view.read (Elt F) f3) w1 w2 st = later (kernelRun.sl.r_2 c arg1 f1) (kernelRun.sl.r_3 c arg2 f2) (kernelRun.sl.r_4 c arg1 arg4 arg6 f1 f4 f6) (kernelRun.sl.r c arg3 f3) (visit (kernelRun.sl.r_2 c arg1 f1) (kernelRun.sl.r_3 c arg2 f2) (kernelRun.sl.r_4 c arg1 arg4 arg6 f1 f4 f6) (kernelRun.sl.r c arg3 f3) zeroSt) (k0_t1_loop (kernelRun.sl.r c arg3 f3) (kernelRun.sl.r_1 c arg3 f3)).trips := by
        unfold afterSt stepSt
        rw [hv4, hv6, hv20, if_pos hc1, ha1, ha2, if_pos (by rw [← ha1, ← ha2]; exact hc2)]
      sl_for (fun k _ => holds c arg9 arg10 (later (kernelRun.sl.r_2 c arg1 f1) (kernelRun.sl.r_3 c arg2 f2) (kernelRun.sl.r_4 c arg1 arg4 arg6 f1 f4 f6) (kernelRun.sl.r c arg3 f3) (visit (kernelRun.sl.r_2 c arg1 f1) (kernelRun.sl.r_3 c arg2 f2) (kernelRun.sl.r_4 c arg1 arg4 arg6 f1 f4 f6) (kernelRun.sl.r c arg3 f3) zeroSt) k)) $$ [H9 H10]
      · exact fun k acc => trip_run 𝒱 c bd E i arg1 harg1 arg2 harg2 arg3 harg3 arg4 harg4 arg5 harg5 arg6 harg6 arg7 harg7 arg8 harg8 arg9 harg9 arg10 harg10 _ _ _ _ _ hck2 hc2 k _
      · unfold holds
        isplitl [H9]
        · iexists _; isplitl [H9]; · iexact H9
          ipureintro
          exact visit9 arg9 _ _ _ _ _ _ _ _ _ zeroSt (View.read_writes_full ..) (View.read_writes_full ..) rfl
        · iexists _; isplitl [H10]; · iexact H10
          ipureintro
          exact visit10 arg10 _ _ _ _ _ _ _ _ _ zeroSt (View.read_writes_full ..) (View.read_writes_full ..) rfl
      iintro %acc ⟨⟨%g9, H9, %e9⟩, ⟨%g10, H10, %e10⟩⟩
      change _ = (later (kernelRun.sl.r_2 c arg1 f1) (kernelRun.sl.r_3 c arg2 f2) (kernelRun.sl.r_4 c arg1 arg4 arg6 f1 f4 f6) (kernelRun.sl.r c arg3 f3) (visit (kernelRun.sl.r_2 c arg1 f1) (kernelRun.sl.r_3 c arg2 f2) (kernelRun.sl.r_4 c arg1 arg4 arg6 f1 f4 f6) (kernelRun.sl.r c arg3 f3) zeroSt) (k0_t1_loop (kernelRun.sl.r c arg3 f3) (kernelRun.sl.r_1 c arg3 f3)).trips).1 at e9
      change _ = (later (kernelRun.sl.r_2 c arg1 f1) (kernelRun.sl.r_3 c arg2 f2) (kernelRun.sl.r_4 c arg1 arg4 arg6 f1 f4 f6) (kernelRun.sl.r c arg3 f3) (visit (kernelRun.sl.r_2 c arg1 f1) (kernelRun.sl.r_3 c arg2 f2) (kernelRun.sl.r_4 c arg1 arg4 arg6 f1 f4 f6) (kernelRun.sl.r c arg3 f3) zeroSt) (k0_t1_loop (kernelRun.sl.r c arg3 f3) (kernelRun.sl.r_1 c arg3 f3)).trips).2 at e10
      rw [← hst] at e9 e10
      by_cases hc3 : k0_cond3 i = 1#1
      · sl_exec
        sl_step
        iapply Hk
        isplitl [H1]; · iexists f1; isplitr; · ipureintro; exact h1
                        iexact H1
        isplitl [H2]; · iexists f2; isplitr; · ipureintro; exact h2
                        iexact H2
        isplitl [H3]; · iexists f3; isplitr; · ipureintro; rfl
                        iexact H3
        isplitl [H4]; · iexists f4; isplitr; · ipureintro; exact h4
                        iexact H4
        isplitl [H6]; · iexists f6; isplitr; · ipureintro; exact h6
                        iexact H6
        isplitl [H8]
        · iexists _; isplitr
          rotate_left
          · iexact H8
          ipureintro
          rw [if_pos hc3, View.read_writes_full]
          unfold quot
          rw [← e9, ← e10]
          rfl
        isplitl [H9]
        · iexists g9; isplitl [H9]; · iexact H9
          ipureintro; exact e9
        · iexists g10; isplitl [H10]; · iexact H10
          ipureintro; exact e10
      · sl_exec
        sl_step
        iapply Hk
        isplitl [H1]; · iexists f1; isplitr; · ipureintro; exact h1
                        iexact H1
        isplitl [H2]; · iexists f2; isplitr; · ipureintro; exact h2
                        iexact H2
        isplitl [H3]; · iexists f3; isplitr; · ipureintro; rfl
                        iexact H3
        isplitl [H4]; · iexists f4; isplitr; · ipureintro; exact h4
                        iexact H4
        isplitl [H6]; · iexists f6; isplitr; · ipureintro; exact h6
                        iexact H6
        isplitl [H8]
        · iexists f8; isplitr
          · ipureintro; rw [if_neg hc3]; exact h8
          iexact H8
        isplitl [H9]
        · iexists g9; isplitl [H9]; · iexact H9
          ipureintro; exact e9
        · iexists g10; isplitl [H10]; · iexact H10
          ipureintro; exact e10
    · by_cases hc3 : k0_cond3 i = 1#1
      · sl_exec
        have hv4 : kernelRun.sl.r_2 c arg1 f1 = k0_pay12 x := by rw [← h1]; exact congrArg _ (View.readAt_full ..)
        have hv6 : kernelRun.sl.r_3 c arg2 f2 = k0_pay13 I := by rw [← h2]; exact congrArg _ (View.readAt_full ..)
        have hv20 : kernelRun.sl.r_4 c arg1 arg4 arg6 f1 f4 f6 = k0_pay14 x w1 w2 := by
          rw [← h1, ← h4, ← h6]; unfold kernelRun.sl.r_4; rw [View.readAt_full, View.readAt_full, View.readAt_full]
        have hst : afterSt i x I (arg3.view.read (Elt F) f3) w1 w2 st = visit (kernelRun.sl.r_2 c arg1 f1) (kernelRun.sl.r_3 c arg2 f2) (kernelRun.sl.r_4 c arg1 arg4 arg6 f1 f4 f6) (kernelRun.sl.r c arg3 f3) zeroSt := by
          unfold afterSt stepSt
          rw [hv4, hv6, hv20, if_pos hc1, ha1, if_neg (by rw [← ha1, ← ha2]; exact hc2)]
          rfl
        sl_step
        iapply Hk
        isplitl [H1]; · iexists f1; isplitr; · ipureintro; exact h1
                        iexact H1
        isplitl [H2]; · iexists f2; isplitr; · ipureintro; exact h2
                        iexact H2
        isplitl [H3]; · iexists f3; isplitr; · ipureintro; rfl
                        iexact H3
        isplitl [H4]; · iexists f4; isplitr; · ipureintro; exact h4
                        iexact H4
        isplitl [H6]; · iexists f6; isplitr; · ipureintro; exact h6
                        iexact H6
        isplitl [H8]
        · iexists _; isplitr
          rotate_left
          · iexact H8
          ipureintro
          rw [if_pos hc3, View.read_writes_full]
          rw [hst]
          exact congrArg₂ k0_pay9 (congrArg (fun A => VecWindow.window (s := S272x128) A ![0, 0] S256x128.size inb_S272x128_S256x128_0_0)
              (visit9 arg9 _ _ _ _ _ _ _ _ _ zeroSt (View.read_writes_full ..) (View.read_writes_full ..) rfl))
            (congrArg (fun A => VecWindow.window (s := S272x1) A ![0, 0] S256x1.size inb_S272x1_S256x1_0_0)
              (visit10 arg10 _ _ _ _ _ _ _ _ _ zeroSt (View.read_writes_full ..) (View.read_writes_full ..) rfl))
        isplitl [H9]
        · iexists _; isplitl [H9]; · iexact H9
          ipureintro; rw [hst]; exact visit9 arg9 _ _ _ _ _ _ _ _ _ zeroSt (View.read_writes_full ..) (View.read_writes_full ..) rfl
        · iexists _; isplitl [H10]; · iexact H10
          ipureintro; rw [hst]; exact visit10 arg10 _ _ _ _ _ _ _ _ _ zeroSt (View.read_writes_full ..) (View.read_writes_full ..) rfl
      · sl_exec
        have hv4 : kernelRun.sl.r_2 c arg1 f1 = k0_pay12 x := by rw [← h1]; exact congrArg _ (View.readAt_full ..)
        have hv6 : kernelRun.sl.r_3 c arg2 f2 = k0_pay13 I := by rw [← h2]; exact congrArg _ (View.readAt_full ..)
        have hv20 : kernelRun.sl.r_4 c arg1 arg4 arg6 f1 f4 f6 = k0_pay14 x w1 w2 := by
          rw [← h1, ← h4, ← h6]; unfold kernelRun.sl.r_4; rw [View.readAt_full, View.readAt_full, View.readAt_full]
        have hst : afterSt i x I (arg3.view.read (Elt F) f3) w1 w2 st = visit (kernelRun.sl.r_2 c arg1 f1) (kernelRun.sl.r_3 c arg2 f2) (kernelRun.sl.r_4 c arg1 arg4 arg6 f1 f4 f6) (kernelRun.sl.r c arg3 f3) zeroSt := by
          unfold afterSt stepSt
          rw [hv4, hv6, hv20, if_pos hc1, ha1, if_neg (by rw [← ha1, ← ha2]; exact hc2)]
          rfl
        sl_step
        iapply Hk
        isplitl [H1]; · iexists f1; isplitr; · ipureintro; exact h1
                        iexact H1
        isplitl [H2]; · iexists f2; isplitr; · ipureintro; exact h2
                        iexact H2
        isplitl [H3]; · iexists f3; isplitr; · ipureintro; rfl
                        iexact H3
        isplitl [H4]; · iexists f4; isplitr; · ipureintro; exact h4
                        iexact H4
        isplitl [H6]; · iexists f6; isplitr; · ipureintro; exact h6
                        iexact H6
        isplitl [H8]
        · iexists f8; isplitr
          · ipureintro; rw [if_neg hc3]; exact h8
          iexact H8
        isplitl [H9]
        · iexists _; isplitl [H9]; · iexact H9
          ipureintro; rw [hst]; exact visit9 arg9 _ _ _ _ _ _ _ _ _ zeroSt (View.read_writes_full ..) (View.read_writes_full ..) rfl
        · iexists _; isplitl [H10]; · iexact H10
          ipureintro; rw [hst]; exact visit10 arg10 _ _ _ _ _ _ _ _ _ zeroSt (View.read_writes_full ..) (View.read_writes_full ..) rfl
  · sl_exec
    have ha1 : kernelRun.sl.r c arg3 f3 = firstId (F := F) (arg3.view.read (Elt F) f3) := rfl
    have hck1 : k0_chk1 (kernelRun.sl.r c arg3 f3) := by rw [ha1]; exact chk1_of ha
    sl_exec
    have ha2 : kernelRun.sl.r_1 c arg3 f3 = lastId (F := F) (arg3.view.read (Elt F) f3) := rfl
    have hck2 : k0_chk2 (kernelRun.sl.r c arg3 f3) (kernelRun.sl.r_1 c arg3 f3) := by rw [ha1, ha2]; exact chk2_of ha hb
    by_cases hc2 : k0_cond2 (kernelRun.sl.r c arg3 f3) (kernelRun.sl.r_1 c arg3 f3) = 1#1
    · sl_exec
      have hv4 : kernelRun.sl.r_2 c arg1 f1 = k0_pay12 x := by rw [← h1]; exact congrArg _ (View.readAt_full ..)
      have hv6 : kernelRun.sl.r_3 c arg2 f2 = k0_pay13 I := by rw [← h2]; exact congrArg _ (View.readAt_full ..)
      have hv20 : kernelRun.sl.r_4 c arg1 arg4 arg6 f1 f4 f6 = k0_pay14 x w1 w2 := by
        rw [← h1, ← h4, ← h6]; unfold kernelRun.sl.r_4; rw [View.readAt_full, View.readAt_full, View.readAt_full]
      have hst : afterSt i x I (arg3.view.read (Elt F) f3) w1 w2 st = later (kernelRun.sl.r_2 c arg1 f1) (kernelRun.sl.r_3 c arg2 f2) (kernelRun.sl.r_4 c arg1 arg4 arg6 f1 f4 f6) (kernelRun.sl.r c arg3 f3) (visit (kernelRun.sl.r_2 c arg1 f1) (kernelRun.sl.r_3 c arg2 f2) (kernelRun.sl.r_4 c arg1 arg4 arg6 f1 f4 f6) (kernelRun.sl.r c arg3 f3) st) (k0_t1_loop (kernelRun.sl.r c arg3 f3) (kernelRun.sl.r_1 c arg3 f3)).trips := by
        unfold afterSt stepSt
        rw [hv4, hv6, hv20, if_neg hc1, ha1, ha2, if_pos (by rw [← ha1, ← ha2]; exact hc2)]
      sl_for (fun k _ => holds c arg9 arg10 (later (kernelRun.sl.r_2 c arg1 f1) (kernelRun.sl.r_3 c arg2 f2) (kernelRun.sl.r_4 c arg1 arg4 arg6 f1 f4 f6) (kernelRun.sl.r c arg3 f3) (visit (kernelRun.sl.r_2 c arg1 f1) (kernelRun.sl.r_3 c arg2 f2) (kernelRun.sl.r_4 c arg1 arg4 arg6 f1 f4 f6) (kernelRun.sl.r c arg3 f3) st) k)) $$ [H9 H10]
      · exact fun k acc => trip_run 𝒱 c bd E i arg1 harg1 arg2 harg2 arg3 harg3 arg4 harg4 arg5 harg5 arg6 harg6 arg7 harg7 arg8 harg8 arg9 harg9 arg10 harg10 _ _ _ _ _ hck2 hc2 k _
      · unfold holds
        isplitl [H9]
        · iexists _; isplitl [H9]; · iexact H9
          ipureintro
          exact visit9 arg9 _ _ _ _ _ _ _ _ _ st (by rw [View.writes_nil]; exact h9) h9 rfl
        · iexists _; isplitl [H10]; · iexact H10
          ipureintro
          exact visit10 arg10 _ _ _ _ _ _ _ _ _ st (by rw [View.writes_nil]; exact h10) h10 rfl
      iintro %acc ⟨⟨%g9, H9, %e9⟩, ⟨%g10, H10, %e10⟩⟩
      change _ = (later (kernelRun.sl.r_2 c arg1 f1) (kernelRun.sl.r_3 c arg2 f2) (kernelRun.sl.r_4 c arg1 arg4 arg6 f1 f4 f6) (kernelRun.sl.r c arg3 f3) (visit (kernelRun.sl.r_2 c arg1 f1) (kernelRun.sl.r_3 c arg2 f2) (kernelRun.sl.r_4 c arg1 arg4 arg6 f1 f4 f6) (kernelRun.sl.r c arg3 f3) st) (k0_t1_loop (kernelRun.sl.r c arg3 f3) (kernelRun.sl.r_1 c arg3 f3)).trips).1 at e9
      change _ = (later (kernelRun.sl.r_2 c arg1 f1) (kernelRun.sl.r_3 c arg2 f2) (kernelRun.sl.r_4 c arg1 arg4 arg6 f1 f4 f6) (kernelRun.sl.r c arg3 f3) (visit (kernelRun.sl.r_2 c arg1 f1) (kernelRun.sl.r_3 c arg2 f2) (kernelRun.sl.r_4 c arg1 arg4 arg6 f1 f4 f6) (kernelRun.sl.r c arg3 f3) st) (k0_t1_loop (kernelRun.sl.r c arg3 f3) (kernelRun.sl.r_1 c arg3 f3)).trips).2 at e10
      rw [← hst] at e9 e10
      by_cases hc3 : k0_cond3 i = 1#1
      · sl_exec
        sl_step
        iapply Hk
        isplitl [H1]; · iexists f1; isplitr; · ipureintro; exact h1
                        iexact H1
        isplitl [H2]; · iexists f2; isplitr; · ipureintro; exact h2
                        iexact H2
        isplitl [H3]; · iexists f3; isplitr; · ipureintro; rfl
                        iexact H3
        isplitl [H4]; · iexists f4; isplitr; · ipureintro; exact h4
                        iexact H4
        isplitl [H6]; · iexists f6; isplitr; · ipureintro; exact h6
                        iexact H6
        isplitl [H8]
        · iexists _; isplitr
          rotate_left
          · iexact H8
          ipureintro
          rw [if_pos hc3, View.read_writes_full]
          unfold quot
          rw [← e9, ← e10]
          rfl
        isplitl [H9]
        · iexists g9; isplitl [H9]; · iexact H9
          ipureintro; exact e9
        · iexists g10; isplitl [H10]; · iexact H10
          ipureintro; exact e10
      · sl_exec
        sl_step
        iapply Hk
        isplitl [H1]; · iexists f1; isplitr; · ipureintro; exact h1
                        iexact H1
        isplitl [H2]; · iexists f2; isplitr; · ipureintro; exact h2
                        iexact H2
        isplitl [H3]; · iexists f3; isplitr; · ipureintro; rfl
                        iexact H3
        isplitl [H4]; · iexists f4; isplitr; · ipureintro; exact h4
                        iexact H4
        isplitl [H6]; · iexists f6; isplitr; · ipureintro; exact h6
                        iexact H6
        isplitl [H8]
        · iexists f8; isplitr
          · ipureintro; rw [if_neg hc3]; exact h8
          iexact H8
        isplitl [H9]
        · iexists g9; isplitl [H9]; · iexact H9
          ipureintro; exact e9
        · iexists g10; isplitl [H10]; · iexact H10
          ipureintro; exact e10
    · by_cases hc3 : k0_cond3 i = 1#1
      · sl_exec
        have hv4 : kernelRun.sl.r_2 c arg1 f1 = k0_pay12 x := by rw [← h1]; exact congrArg _ (View.readAt_full ..)
        have hv6 : kernelRun.sl.r_3 c arg2 f2 = k0_pay13 I := by rw [← h2]; exact congrArg _ (View.readAt_full ..)
        have hv20 : kernelRun.sl.r_4 c arg1 arg4 arg6 f1 f4 f6 = k0_pay14 x w1 w2 := by
          rw [← h1, ← h4, ← h6]; unfold kernelRun.sl.r_4; rw [View.readAt_full, View.readAt_full, View.readAt_full]
        have hst : afterSt i x I (arg3.view.read (Elt F) f3) w1 w2 st = visit (kernelRun.sl.r_2 c arg1 f1) (kernelRun.sl.r_3 c arg2 f2) (kernelRun.sl.r_4 c arg1 arg4 arg6 f1 f4 f6) (kernelRun.sl.r c arg3 f3) st := by
          unfold afterSt stepSt
          rw [hv4, hv6, hv20, if_neg hc1, ha1, if_neg (by rw [← ha1, ← ha2]; exact hc2)]
          rfl
        sl_step
        iapply Hk
        isplitl [H1]; · iexists f1; isplitr; · ipureintro; exact h1
                        iexact H1
        isplitl [H2]; · iexists f2; isplitr; · ipureintro; exact h2
                        iexact H2
        isplitl [H3]; · iexists f3; isplitr; · ipureintro; rfl
                        iexact H3
        isplitl [H4]; · iexists f4; isplitr; · ipureintro; exact h4
                        iexact H4
        isplitl [H6]; · iexists f6; isplitr; · ipureintro; exact h6
                        iexact H6
        isplitl [H8]
        · iexists _; isplitr
          rotate_left
          · iexact H8
          ipureintro
          rw [if_pos hc3, View.read_writes_full]
          rw [hst]
          exact congrArg₂ k0_pay9 (congrArg (fun A => VecWindow.window (s := S272x128) A ![0, 0] S256x128.size inb_S272x128_S256x128_0_0)
              (visit9 arg9 _ _ _ _ _ _ _ _ _ st (by rw [View.writes_nil]; exact h9) h9 rfl))
            (congrArg (fun A => VecWindow.window (s := S272x1) A ![0, 0] S256x1.size inb_S272x1_S256x1_0_0)
              (visit10 arg10 _ _ _ _ _ _ _ _ _ st (by rw [View.writes_nil]; exact h10) h10 rfl))
        isplitl [H9]
        · iexists _; isplitl [H9]; · iexact H9
          ipureintro; rw [hst]; exact visit9 arg9 _ _ _ _ _ _ _ _ _ st (by rw [View.writes_nil]; exact h9) h9 rfl
        · iexists _; isplitl [H10]; · iexact H10
          ipureintro; rw [hst]; exact visit10 arg10 _ _ _ _ _ _ _ _ _ st (by rw [View.writes_nil]; exact h10) h10 rfl
      · sl_exec
        have hv4 : kernelRun.sl.r_2 c arg1 f1 = k0_pay12 x := by rw [← h1]; exact congrArg _ (View.readAt_full ..)
        have hv6 : kernelRun.sl.r_3 c arg2 f2 = k0_pay13 I := by rw [← h2]; exact congrArg _ (View.readAt_full ..)
        have hv20 : kernelRun.sl.r_4 c arg1 arg4 arg6 f1 f4 f6 = k0_pay14 x w1 w2 := by
          rw [← h1, ← h4, ← h6]; unfold kernelRun.sl.r_4; rw [View.readAt_full, View.readAt_full, View.readAt_full]
        have hst : afterSt i x I (arg3.view.read (Elt F) f3) w1 w2 st = visit (kernelRun.sl.r_2 c arg1 f1) (kernelRun.sl.r_3 c arg2 f2) (kernelRun.sl.r_4 c arg1 arg4 arg6 f1 f4 f6) (kernelRun.sl.r c arg3 f3) st := by
          unfold afterSt stepSt
          rw [hv4, hv6, hv20, if_neg hc1, ha1, if_neg (by rw [← ha1, ← ha2]; exact hc2)]
          rfl
        sl_step
        iapply Hk
        isplitl [H1]; · iexists f1; isplitr; · ipureintro; exact h1
                        iexact H1
        isplitl [H2]; · iexists f2; isplitr; · ipureintro; exact h2
                        iexact H2
        isplitl [H3]; · iexists f3; isplitr; · ipureintro; rfl
                        iexact H3
        isplitl [H4]; · iexists f4; isplitr; · ipureintro; exact h4
                        iexact H4
        isplitl [H6]; · iexists f6; isplitr; · ipureintro; exact h6
                        iexact H6
        isplitl [H8]
        · iexists f8; isplitr
          · ipureintro; rw [if_neg hc3]; exact h8
          iexact H8
        isplitl [H9]
        · iexists _; isplitl [H9]; · iexact H9
          ipureintro; rw [hst]; exact visit9 arg9 _ _ _ _ _ _ _ _ _ st (by rw [View.writes_nil]; exact h9) h9 rfl
        · iexists _; isplitl [H10]; · iexact H10
          ipureintro; rw [hst]; exact visit10 arg10 _ _ _ _ _ _ _ _ _ st (by rw [View.writes_nil]; exact h10) h10 rfl

end Run

end Cert.KernelIdeal.Pool

end
-- ==== Proof.Body.lean ====
/-
  Hand-written, untrusted. The kernel's pallas_call: what the accumulators hold after each grid step (`stAt`), the proof data, the
  body obligation at every step, and the run of the whole program. Stated for any value instance; the only hypothesis is that in
  every block the first and the last id are below 256.
-/
module

public import proofs.«01_k».proof.Proof.Run
public import proofs.«01_k».proof.Proof.Gen.KernelIdeal.Frame

@[expose] public section

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks a step reads -/

/-- The step's 4000 rows. -/
abbrev rowsB (c : Dev nD) (t : Fin cfg0.N) : Vec F S4000x128 .f32 := iblk m c 0 t
/-- The step's 4000 ids, as the vector unit reads them. -/
abbrev idsB (c : Dev nD) (t : Fin cfg0.N) : Vec F S1x1x4000 .i32 := iblk m c 1 t
/-- The step's 4000 ids, as the scalar unit reads them. -/
abbrev idsS (c : Dev nD) (t : Fin cfg0.N) : Vec F S1x1x4000 .i32 := iblk m c 2 t
/-- The first weight matrix. -/
abbrev w1B (c : Dev nD) (t : Fin cfg0.N) : Vec F S128x64 .f32 := iblk m c 3 t
/-- The second weight matrix, laid out as a row. -/
abbrev w2B (c : Dev nD) (t : Fin cfg0.N) : Vec F S1x64 .f32 := iblk m c 5 t

/-- What the accumulators hold after the first `n` steps. -/
def stAt (c : Dev nD) : ℕ → St F
  | 0 => zeroSt
  | n + 1 =>
    if h : n < cfg0.N then
      afterSt (grid0.coords ⟨n, h⟩) (rowsB m c ⟨n, h⟩) (idsB m c ⟨n, h⟩) (idsS m c ⟨n, h⟩) (w1B m c ⟨n, h⟩) (w2B m c ⟨n, h⟩) (stAt c n)
    else stAt c n

/-- In every block the first and the last id are below 256. -/
def InRange : Prop :=
  ∀ (c : Dev nD) (t : Fin cfg0.N), (firstId (idsS m c t)).toNat < 256 ∧ (lastId (idsS m c t)).toNat < 256

theorem cond1_iff : ∀ t : Fin cfg0.N, cond1 (grid0.coords t) = 1#1 ↔ t.val = 0 := by decide

theorem cond3_iff : ∀ t : Fin cfg0.N, k0_cond3 (grid0.coords t) = 1#1 ↔ t.val = 24 := by decide

/-- The accumulators after a step, from what they held before it (at the first step, whatever they held). -/
theorem stAt_succ (c : Dev nD) (t : Fin cfg0.N) (st : St F) (h : t.val ≠ 0 → st = stAt m c t.val) :
    afterSt (grid0.coords t) (rowsB m c t) (idsB m c t) (idsS m c t) (w1B m c t) (w2B m c t) st = stAt m c (t.val + 1) := by
  rw [stAt, dif_pos t.isLt]
  unfold afterSt
  by_cases h0 : t.val = 0
  · rw [if_pos ((cond1_iff t).2 h0), if_pos ((cond1_iff t).2 h0)]
  · rw [h h0]

/-! ## The proof data -/

/-- Between steps: both accumulators at `stAt` (at anything before the first step), and the generator register. -/
def PhiS (c : Dev nD) (n : ℕ) : sProp 𝕄 :=
  iprop((∃ st : St F, ⌜n ≠ 0 → st = stAt m c n⌝ ∗ holds c (Memref.whole cc0_scratch0) (Memref.whole cc0_scratch1) st) ∗ ∃ r, prngReg c r)

/-- The proof data: each input's block stays in place, the output's block is the quotient of what the step leaves. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => quot (stAt m c (t.val + 1))
  Φ t := PhiS m c t.val
  q w := Pipeline.shareOf spec0 w
  owed _ := 0

theorem A_eq (c : Dev nD) (w : Fin cfg0.W) : (dats m 0 c).A w = V m c (Pipeline.arrRef spec0 w) := by dsimp only [dats]

/-- What the body is called with at step `t`: the windows' staging memrefs, the inputs at their blocks. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d)))

/-- What the body returns at step `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare (if k0_cond3 (grid0.coords t) = 1#1 then (dats m 0 c).after 7 t else (dats m 0 c).before 7 t d)))

theorem before_0 (c : Dev nD) (t : Fin cfg0.N) (d) : (dats m 0 c).before 0 t d = rowsB m c t := before0_0_of m (dats m 0 c) (A_eq m c 0) (fun _ => rfl) t d
theorem before_1 (c : Dev nD) (t : Fin cfg0.N) (d) : (dats m 0 c).before 1 t d = idsB m c t := before0_1_of m (dats m 0 c) (A_eq m c 1) (fun _ => rfl) t d
theorem before_2 (c : Dev nD) (t : Fin cfg0.N) (d) : (dats m 0 c).before 2 t d = idsS m c t := before0_2_of m (dats m 0 c) (A_eq m c 2) (fun _ => rfl) t d
theorem before_3 (c : Dev nD) (t : Fin cfg0.N) (d) : (dats m 0 c).before 3 t d = w1B m c t := before0_3_of m (dats m 0 c) (A_eq m c 3) (fun _ => rfl) t d
theorem before_4 (c : Dev nD) (t : Fin cfg0.N) (d) : (dats m 0 c).before 4 t d = iblk m c 4 t := before0_4_of m (dats m 0 c) (A_eq m c 4) (fun _ => rfl) t d
theorem before_5 (c : Dev nD) (t : Fin cfg0.N) (d) : (dats m 0 c).before 5 t d = w2B m c t := before0_5_of m (dats m 0 c) (A_eq m c 5) (fun _ => rfl) t d
theorem before_6 (c : Dev nD) (t : Fin cfg0.N) (d) : (dats m 0 c).before 6 t d = iblk m c 6 t := before0_6_of m (dats m 0 c) (A_eq m c 6) (fun _ => rfl) t d

/-- The body at a step: the invariant opened, `kernelRun`, the invariant closed. -/
theorem sound_body (hO : InRange m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = PhiS m c t.val from rfl, show (dats m 0 c).Φ t.succ = PhiS m c (t.val + 1) from rfl,
    show (dats m 0 c).owesAt () t.succ = (dats m 0 c).owesAt () t.castSucc from rfl]
  unfold PhiS
  iintro ⟨⟨⟨%st, %hst, HS⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before_1 m c t d1, before_2 m c t d2, before_3 m c t d3, before_4 m c t d4, before_5 m c t d5, before_6 m c t d6]
  iapply (kernelRun Variants.none c none Set.univ (grid0.coords t) _ _ _ _ _ _ _ _ _ _ _ _ _ _ _ _ _ _ _ _
    (rowsB m c t) (idsB m c t) (idsS m c t) (w1B m c t) (w2B m c t) ((dats m 0 c).before 7 t d7) st (hO c t).1 (hO c t).2)
  rw [stAt_succ m c t st hst]
  isplitl [H0]; · iexact H0
  isplitl [H1]; · iexact H1
  isplitl [H2]; · iexact H2
  isplitl [H3]; · iexact H3
  isplitl [H5]; · iexact H5
  isplitl [H7]; · iexact H7
  isplitl [HS]; · iexact HS
  iintro ⟨H0, H1, H2, H3, H5, H7, HS⟩
  isplitl [HS Hg]
  · isplitl [HS]
    · iexists _; isplitr
      rotate_left
      · iexact HS
      ipureintro; exact fun _ => rfl
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- The body table's row at the step is the body as `bodyAt0` spells it. -/
theorem defs₀_row (t : Fin cfg0.N) : defs₀ (F := F) .tc cfg0.body (cfg0.bodyArgs t (cfg0.slots t)) = bodyAt0 t := by
  unfold defs₀; rw [Defs.onTc_tc]

theorem idle_out (t : Fin cfg0.N) : cfg0.idle 7 (cfg0.grid.coords t) = !(k0_cond3 (grid0.coords t) == 1#1) := rfl

/-- What the body returns is what the pipeline asks for. -/
theorem post_of (c : Dev nD) (t : Fin cfg0.N) :
    (∃ d, owns (c : Thread nD τ) (st0_7 t) fullShare (if k0_cond3 (grid0.coords t) = 1#1 then (dats m 0 c).after 7 t else (dats m 0 c).before 7 t d) : sProp 𝕄)
      ⊢ (match cfg0.idle 7 (cfg0.grid.coords t) with
          | true => match (cfg0.win 7).flush t with
            | false => iprop(∃ d, owns (c : Thread nD τ) ((cfg0.win 7).stage (cfg0.slots t 7)) fullShare ((dats m 0 c).before 7 t d))
            | true => owns (c : Thread nD τ) ((cfg0.win 7).stage (cfg0.slots t 7)) fullShare ((dats m 0 c).after 7 t)
          | false => owns (c : Thread nD τ) ((cfg0.win 7).stage (cfg0.slots t 7)) fullShare ((dats m 0 c).after 7 t)) := by
  rw [idle_out]
  by_cases h3 : k0_cond3 (grid0.coords t) = 1#1
  · rw [show (!(k0_cond3 (grid0.coords t) == 1#1)) = false by rw [h3]; rfl]
    simp only [if_pos h3]
    iintro ⟨%d, H⟩
    iexact H
  · have hf : (cfg0.win 7).flush t = false := by
      cases hft : (cfg0.win 7).flush t
      · rfl
      · exfalso
        have h25 : t.val < 25 := lt_of_lt_of_eq t.isLt N_0
        exact h3 ((cond3_iff t).2 (by have := (flush0_7 t).1 hft; omega))
    have hi : (!(k0_cond3 (grid0.coords t) == 1#1)) = true := by simp only [h3, beq_iff_eq, Bool.not_eq_true', beq_eq_false_iff_ne, ne_eq, not_false_eq_true]
    rw [hi, hf]
    simp only [if_neg h3]
    exact .rfl

/-- The pipeline's body obligation. -/
theorem body_obligation (hO : InRange m) (c : Dev nD) : BodyObligation (dats m 0 c) (defs₀ (F := F)) Variants.none () Set.univ := fun t => by
  rw [bigSep_W0, bigSep_W0, defs₀_row]
  refine triple_restated (sound_body m hO c t) rfl .rfl fun _ => ?_
  unfold bodyPost
  iintro ⟨HP, HO, H0, H1, H2, H3, H4, H5, H6, H7⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post_of m c t)
  iexact H7

/-! ## The launch -/

/-- A buffer held whole, spelled through the memref on all of it. -/
theorem whole_pts (c : Dev nD) (b : Ref sig .tc) (f : Buf (Elt F) ((c : Thread nD τ).loc b)) :
    (((c : Thread nD τ).loc b) ↦{fullShare} f : sProp 𝕄) = ((Memref.whole b).view.loc (c : Thread nD τ) ↦[(Memref.whole b).view.set]{fullShare} f) := by
  have hs : (Memref.whole b).view.set = Finset.univ := by simp only [Memref.view_whole, View.set_whole]
  rw [hs]

/-- Before the first step the accumulators hold anything. -/
theorem phi_in (c : Dev nD) : Pipeline.ΦA spec0 c ⊢ (dats m 0 c).Φ 0 := by
  rw [show (dats m 0 c).Φ 0 = PhiS m c 0 from rfl]
  unfold Pipeline.ΦA PhiS holds
  rw [scopedRest0_eq]
  iintro ⟨⟨⟨%f, HA⟩, ⟨%g, HS⟩⟩, Hg⟩
  isplitr [Hg]
  · iexists ((Memref.whole cc0_scratch0).view.read (Elt F) f, (Memref.whole cc0_scratch1).view.read (Elt F) g)
    isplitr; · ipureintro; exact fun h => absurd rfl h
    isplitl [HA]
    · iexists f; isplitl [HA]
      · iapply (Entails.of_eq (whole_pts c cc0_scratch0 f)); iexact HA
      ipureintro; rfl
    · iexists g; isplitl [HS]
      · iapply (Entails.of_eq (whole_pts c cc0_scratch1 g)); iexact HS
      ipureintro; rfl
  iexact Hg

/-- After the last step what the accumulators hold is forgotten. -/
theorem phi_out (c : Dev nD) : (dats m 0 c).Φ (Fin.last cfg0.N) ⊢ Pipeline.ΦA spec0 c := by
  rw [show (dats m 0 c).Φ (Fin.last cfg0.N) = PhiS m c cfg0.N from rfl]
  unfold Pipeline.ΦA PhiS holds
  rw [scopedRest0_eq]
  iintro ⟨⟨%st, %hst, ⟨%f, HA, %hf⟩, ⟨%g, HS, %hg⟩⟩, Hg⟩
  isplitr [Hg]
  · isplitl [HA]
    · iexists f; iapply (Entails.of_eq (whole_pts c cc0_scratch0 f).symm); iexact HA
    · iexists g; iapply (Entails.of_eq (whole_pts c cc0_scratch1 g).symm); iexact HS
  iexact Hg

set_option backward.isDefEq.respectTransparency.types false in
/-- The whole program's run: every weakly fair execution ends, with every window's array as the proof data says, every other array as it
    was, and every semaphore at zero. -/
theorem run_main (hO : InRange m) :
    θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m hO c).loose) (hq := fun _ _ _ => rfl)
    (howed := fun _ _ => rfl) (V := V m) (hmain := hmain m Variants.none) (hA := A_eq m)
    (hin := phi_in m) (hout := phi_out m) (hQ' := fun _ h => h)

end Cert.KernelIdeal.Pool

end
-- ==== Proof.Blocks.lean ====
/-
  Hand-written, untrusted. Each window's block read at an index: the rows, ids and weights a grid step sees are the arguments'
  own rows, ids and weights.
-/
module

public import proofs.«01_k».proof.Proof.Body
public import Idealize.ShloMosaic.Lib.ValueIdx
public import Idealize.ShloMosaic.Lib.Pipeline.Value
public import Idealize.ShloMosaic.Lib.StableHlo.Run

@[expose] public section

noncomputable section

namespace Cert.KernelIdeal.Pool

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-- The argument's row that step `t` sees as its row `j`. -/
abbrev rowIx (t : Fin cfg0.N) (j : Fin 4000) : Fin 100000 :=
  ⟨4000 * t.val + j.val, by have := t.isLt; have h : cfg0.N = 25 := N_0; have := j.isLt; omega⟩

/-- The arguments, as arrays. -/
abbrev rowsA0 (c : Dev nD) : FVec F S100000x128 .f32 := m ((c : Thread nD τ).loc main_arg0)
abbrev idsA1 (c : Dev nD) : IVec S100000 32 := m ((c : Thread nD τ).loc main_arg1)
abbrev w1A2 (c : Dev nD) : FVec F S128x64 .f32 := m ((c : Thread nD τ).loc main_arg2)
abbrev w2A4 (c : Dev nD) : FVec F S64x1 .f32 := m ((c : Thread nD τ).loc main_arg4)

theorem index_0 : ∀ t : Fin cfg0.N, win0_0.index t 0 = t.val ∧ win0_0.index t 1 = 0 := by decide
theorem index_1 : ∀ t : Fin cfg0.N, win0_1.index t 0 = t.val ∧ win0_1.index t 1 = 0 ∧ win0_1.index t 2 = 0 := by decide
theorem index_2 : ∀ t : Fin cfg0.N, win0_2.index t 0 = t.val ∧ win0_2.index t 1 = 0 ∧ win0_2.index t 2 = 0 := by decide
theorem index_3 : ∀ t : Fin cfg0.N, win0_3.index t 0 = 0 ∧ win0_3.index t 1 = 0 := by decide
theorem index_5 : ∀ t : Fin cfg0.N, win0_5.index t 0 = 0 ∧ win0_5.index t 1 = 0 := by decide

/-- The ids as the region finds them: the argument cut into 25 lines of 4000. -/
theorem V_ids (c : Dev nD) (a : Fin 25) (j : Fin 4000) :
    (V m c main_v0 : Vec F S25x1x4000 .i32) (ix3 a 0 j) = idsA1 m c (ix1 ⟨4000 * a.val + j.val, by omega⟩) := by
  have h : V m c main_v0 = shapeCast S25x1x4000 (idsA1 m c) shapeCasts_S100000_S25x1x4000 := by
    unfold V hostOps0
    after_results
    rfl
  rw [h]
  refine shapeCast_apply _ _ _ _ ?_
  rw [Shape.rowMajor_val_one, Shape.rowMajor_val_three]
  show 4000 * a.val + j.val = (a.val * 1 + 0) * 4000 + j.val
  omega

/-- The second weights as the region finds them: the argument's column laid out as a row. -/
theorem V_w2 (c : Dev nD) (k : Fin 64) :
    (V m c main_v2 : Vec F S1x64 .f32) (ix2 0 k) = w2A4 m c (ix2 k 0) := by
  have h : V m c main_v2 = shapeCast S1x64 (w2A4 m c) shapeCasts_S64x1_S1x64 := by
    unfold V hostOps0
    after_results
    rfl
  rw [h]
  refine shapeCast_apply _ _ _ _ ?_
  rw [Shape.rowMajor_val_two, Shape.rowMajor_val_two]
  simp

theorem rowsB_apply (c : Dev nD) (t : Fin cfg0.N) (j : Fin 4000) (d : Fin 128) :
    rowsB m c t (ix2 j d) = rowsA0 m c (ix2 (rowIx t j) d) := by
  show iblk m c 0 t (ix2 j d) = _
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 4000 + 1 * j.val = 4000 * t.val + j.val; rw [(index_0 t).1]; omega
  | ⟨1, _⟩ => show win0_0.index t 1 * 128 + 1 * d.val = d.val; rw [(index_0 t).2]; omega

theorem idsB_apply (c : Dev nD) (t : Fin cfg0.N) (j : Fin 4000) :
    idsB m c t (ix3 0 0 j) = idsA1 m c (ix1 (rowIx t j)) := by
  show iblk m c 1 t (ix3 0 0 j) = _
  unfold iblk
  rw [View.read_apply]
  refine Eq.trans ?_ (V_ids m c ⟨t.val, by have := t.isLt; have h : cfg0.N = 25 := N_0; omega⟩ j)
  show V m c main_v0 _ = V m c main_v0 _
  refine congrArg (V m c main_v0) ?_
  funext a
  apply Fin.ext
  match a with
  | ⟨0, _⟩ => show win0_1.index t 0 * 1 + 1 * 0 = t.val; rw [(index_1 t).1]; omega
  | ⟨1, _⟩ => show win0_1.index t 1 * 1 + 1 * 0 = 0; rw [(index_1 t).2.1]
  | ⟨2, _⟩ => show win0_1.index t 2 * 4000 + 1 * j.val = j.val; rw [(index_1 t).2.2]; omega

theorem idsS_apply (c : Dev nD) (t : Fin cfg0.N) (j : Fin 4000) :
    idsS m c t (ix3 0 0 j) = idsA1 m c (ix1 (rowIx t j)) := by
  show iblk m c 2 t (ix3 0 0 j) = _
  unfold iblk
  rw [View.read_apply]
  refine Eq.trans ?_ (V_ids m c ⟨t.val, by have := t.isLt; have h : cfg0.N = 25 := N_0; omega⟩ j)
  show V m c main_v0 _ = V m c main_v0 _
  refine congrArg (V m c main_v0) ?_
  funext a
  apply Fin.ext
  match a with
  | ⟨0, _⟩ => show win0_2.index t 0 * 1 + 1 * 0 = t.val; rw [(index_2 t).1]; omega
  | ⟨1, _⟩ => show win0_2.index t 1 * 1 + 1 * 0 = 0; rw [(index_2 t).2.1]
  | ⟨2, _⟩ => show win0_2.index t 2 * 4000 + 1 * j.val = j.val; rw [(index_2 t).2.2]; omega

theorem w1B_apply (c : Dev nD) (t : Fin cfg0.N) (d : Fin 128) (k : Fin 64) :
    w1B m c t (ix2 d k) = w1A2 m c (ix2 d k) := by
  show iblk m c 3 t (ix2 d k) = _
  unfold iblk
  rw [View.read_apply]
  show V m c main_arg2 _ = _
  rw [V_main_arg2]
  show m (c.tc.loc main_arg2) _ = m (c.tc.loc main_arg2) _
  congr 1
  funext a
  apply Fin.ext
  match a with
  | ⟨0, _⟩ => show win0_3.index t 0 * 128 + 1 * d.val = d.val; rw [(index_3 t).1]; omega
  | ⟨1, _⟩ => show win0_3.index t 1 * 64 + 1 * k.val = k.val; rw [(index_3 t).2]; omega

theorem w2B_apply (c : Dev nD) (t : Fin cfg0.N) (k : Fin 64) :
    w2B m c t (ix2 0 k) = w2A4 m c (ix2 k 0) := by
  show iblk m c 5 t (ix2 0 k) = _
  unfold iblk
  rw [View.read_apply]
  refine Eq.trans ?_ (V_w2 m c k)
  show V m c main_v2 _ = V m c main_v2 _
  refine congrArg (V m c main_v2) ?_
  funext a
  apply Fin.ext
  match a with
  | ⟨0, _⟩ => show win0_5.index t 0 * 1 + 1 * 0 = 0; rw [(index_5 t).1]
  | ⟨1, _⟩ => show win0_5.index t 1 * 64 + 1 * k.val = k.val; rw [(index_5 t).2]; omega

/-- The scalar unit's first word of a block is the id of the block's first row. -/
theorem firstId_eq (c : Dev nD) (t : Fin cfg0.N) : firstId (idsS m c t) = idsA1 m c (ix1 (rowIx t 0)) := by
  rw [← idsS_apply]
  unfold firstId
  exact congrArg (idsS m c t) (funext fun a => Fin.ext (by match a with | ⟨0, _⟩ => rfl | ⟨1, _⟩ => rfl | ⟨2, _⟩ => rfl))

/-- The scalar unit's last word of a block is the id of the block's last row. -/
theorem lastId_eq (c : Dev nD) (t : Fin cfg0.N) : lastId (idsS m c t) = idsA1 m c (ix1 (rowIx t 3999)) := by
  rw [← idsS_apply]
  unfold lastId
  exact congrArg (idsS m c t) (funext fun a => Fin.ext (by match a with | ⟨0, _⟩ => rfl | ⟨1, _⟩ => rfl | ⟨2, _⟩ => rfl))

/-- The ids of every device never decrease and lie below 256. -/
def Sorted : Prop :=
  ∀ c : Dev nD, (∀ j : Fin 100000, (idsA1 m c (ix1 j)).toNat < 256)
    ∧ ∀ j k : Fin 100000, j ≤ k → (idsA1 m c (ix1 j)).toNat ≤ (idsA1 m c (ix1 k)).toNat

/-- Ids below 256 give every block end words below 256. -/
theorem inRange_of_lt (h : ∀ (c : Dev nD) (j : Fin 100000), (idsA1 m c (ix1 j)).toNat < 256) : InRange m := fun c t => by
  rw [firstId_eq, lastId_eq]
  exact ⟨h c _, h c _⟩

/-- Sorted ids give every block ordered end words. -/
theorem first_le_last (h : Sorted m) (c : Dev nD) (t : Fin cfg0.N) : (firstId (idsS m c t)).toNat ≤ (lastId (idsS m c t)).toNat := by
  rw [firstId_eq, lastId_eq]
  exact (h c).2 _ _ (by show 4000 * t.val + 0 ≤ 4000 * t.val + 3999; omega)

end Cert.KernelIdeal.Pool

end
-- ==== Proof.Outcome.lean ====
/-
  Hand-written, untrusted. The whole run, read at the result and at the arguments: on ordered ids the kernel ends with its result
  array at the quotient of the two accumulators after all 25 steps, the arguments as they were, and every counter at zero.
-/
module

public import proofs.«01_k».proof.Proof.Blocks

@[expose] public section

noncomputable section

namespace Cert.KernelIdeal.Pool

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- What the result array ends holding. -/
abbrev outcome (c : Dev nD) : Buf (Elt F) ((c : Thread nD τ).loc main_v4) := quot (stAt m c 25)

/-- The one write-back, at the last step, writes the whole result. -/
theorem flushed_eq (c : Dev nD) (t : Fin cfg0.N) (hf : (cfg0.win 7).flush t = true) :
    (dats m 0 c).flushed 7 t = ((cfg0.win 7).blk t).view.read (Elt F) (outcome m c) := by
  have hN : cfg0.N = 25 := N_0
  have h3 : t.val = 24 := by have := (flush0_7 t).mp hf; have := t.isLt; omega
  have hz' : (fun a => win0_7.index t a * main_v4.ty.shape.size a) = fun _ => 0 := by
    have h : ∀ t : Fin cfg0.N, win0_7.index t 0 = 0 ∧ win0_7.index t 1 = 0 := by decide
    funext a
    match a with
    | ⟨0, _⟩ => show win0_7.index t 0 * _ = 0; rw [(h t).1, Nat.zero_mul]
    | ⟨1, _⟩ => show win0_7.index t 1 * _ = 0; rw [(h t).2, Nat.zero_mul]
  have ho : quot (stAt m c (t.val + 1)) = outcome m c := by rw [h3]
  show quot (stAt m c (t.val + 1)) = _
  rw [ho]
  exact (Memref.read_access_unit_zero (Elt F) main_v4 hz' (fun a => by rw [congrFun hz' a]; simp) (outcome m c)).symm

theorem lastStep : (24 : ℕ) < cfg0.N := by rw [show cfg0.N = 25 from N_0]; decide

/-- So the result array ends holding it: the last step's block is the whole array. -/
theorem final_o (c : Dev nD) : (dats m 0 c).arrAt 7 cfg0.N = outcome m c :=
  (dats m 0 c).arrAt_eq_of_cover 7 (outcome m c) (flushed_eq m c) fun i =>
    ⟨⟨24, lastStep⟩, (flush0_7 _).mpr rfl, by
      show i ∈ ((View.whole main_v4).slice (win0_7.rect ⟨24, lastStep⟩)).set
      rw [View.set_slice_whole, Rect.mem_set_unit]
      intro a
      have h0 : (i 0 : Nat) < 256 := (i 0).isLt
      have h1 : (i 1 : Nat) < 128 := (i 1).isLt
      have e0 : win0_7.index ⟨24, lastStep⟩ 0 * win0_7.size 0 = 0 := by decide +kernel
      have e1 : win0_7.index ⟨24, lastStep⟩ 1 * win0_7.size 1 = 0 := by decide +kernel
      have x0 : win0_7.xsize (grid0.coords ⟨24, lastStep⟩) 0 = 256 := by decide +kernel
      have x1 : win0_7.xsize (grid0.coords ⟨24, lastStep⟩) 1 = 128 := by decide +kernel
      match a with
      | ⟨0, _⟩ =>
        show win0_7.index ⟨24, lastStep⟩ 0 * win0_7.size 0 ≤ (i 0 : Nat)
          ∧ (i 0 : Nat) < win0_7.index ⟨24, lastStep⟩ 0 * win0_7.size 0 + win0_7.xsize (grid0.coords ⟨24, lastStep⟩) 0
        rw [e0, x0]; omega
      | ⟨1, _⟩ =>
        show win0_7.index ⟨24, lastStep⟩ 1 * win0_7.size 1 ≤ (i 1 : Nat)
          ∧ (i 1 : Nat) < win0_7.index ⟨24, lastStep⟩ 1 * win0_7.size 1 + win0_7.xsize (grid0.coords ⟨24, lastStep⟩) 1
        rw [e1, x1]; omega⟩

/-- The run: the result, the arguments and the counters at the end. -/
theorem run_outcome (hO : InRange m) :
    θ_run defs (onTc (τ := τ) (main (F := F))) ⟨m, fun _ => 0, ρ⟩ (fun r => (∀ c : Dev nD,
      r.2.mem ((c.tc : Thread nD τ).loc main_v4) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ ⟨h, hs⟩ => ⟨fun c => ⟨((h c).1 7).trans (final_o m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩, hs⟩)
    (run_main m ρ hO)

end Cert.KernelIdeal.Pool

end
-- ==== Proof.Pre.lean ====
/-
  Hand-written, untrusted. The two preconditions read off their printed `jnp.all`s. `in_range`: the graph ids lie below 256.
  `inputs`: so they do and they never decrease (both at any value instance), and what it says of the two biases and of the scores.
-/
module

public import proofs.«01_k».proof.Proof.Gen.Pre_in_range
public import proofs.«01_k».proof.Proof.Gen.Pre_inputs
public import Idealize.ShloMosaic.Lib.ValueIdx
public import Idealize.ShloMosaic.Lib.ReduceAll
public import Idealize.ShloMosaic.Lib.Affine
public import Idealize.ShloMosaic.Lib.Pipeline.Value
public import Idealize.ShloMosaic.PureOps.Ideal

@[expose] public section

noncomputable section

namespace Cert.Pre_in_range.Pool

open Cert.Pre_in_range Idealize.ShloMosaic Idealize.ShloMosaic.ValueIdx

instance : Subsingleton S_.Idx := ⟨fun a b => (eq_ix0 a).trans (eq_ix0 b).symm⟩

/-- A word between 0 and 255 as a signed number is below 256 as a natural number. -/
theorem word_lt {w : BitVec 32} (h : 0 ≤ w.toInt ∧ w.toInt < 256) : w.toNat < 256 := by
  have hc := BitVec.toInt_eq_toNat_cond w
  have hl := w.isLt
  split at hc <;> omega

/-- Every graph id, as a natural number, is below 256. -/
theorem id_lt {F : FTy → Type} [FloatOps F] (x : FVec F S100000x128 .f32) (ids : IVec S100000 32) (w1 : FVec F S128x64 .f32)
    (b1 : FVec F S64 .f32) (w2 : FVec F S64x1 .f32) (b2 : FVec F S1 .f32) (e : fn x ids w1 b1 w2 b2 = fun _ => 1#1) (j : Fin 100000) :
    (ids (ix1 j)).toNat < 256 := by
  have e := congrFun e ix0
  dsimp only [fn] at e
  obtain ⟨h1, h2⟩ := IntOp.andi_eq_one.1 (Host.reduce_andi_all _ _ _ _ _ e (ix1 j))
  exact word_lt ⟨IntOp.cmpi_sge.1 h1, IntOp.cmpi_slt.1 h2⟩

end Cert.Pre_in_range.Pool

namespace Cert.Pre_inputs.Pool

open Cert.Pre_inputs Idealize.ShloMosaic Idealize.ShloMosaic.ValueIdx

instance : Subsingleton S_.Idx := ⟨fun a b => (eq_ix0 a).trans (eq_ix0 b).symm⟩

section
variable {F : FTy → Type} [FloatOps F]
variable (x : FVec F S100000x128 .f32) (ids : IVec S100000 32) (w1 : FVec F S128x64 .f32) (b1 : FVec F S64 .f32)
  (w2 : FVec F S64x1 .f32) (b2 : FVec F S1 .f32)

/-- The scores of the rows, as the precondition computes them. -/
abbrev scoresOf : FVec F S100000x1 .f32 :=
  Host.dotGeneral dot_S100000x64_S64x1_S100000x1_1_0_0_1_n_n none
    (Host.tanh (Host.dotGeneral dot_S100000x128_S128x64_S100000x64_1_0_0_1_n_n none x w1)) w2

/-- The precondition's conjuncts, element by element. -/
theorem parts (e : fn x ids w1 b1 w2 b2 = fun _ => 1#1) :
    (∀ j : Fin 100000, 0 ≤ (ids (ix1 j)).toInt ∧ (ids (ix1 j)).toInt < 256)
    ∧ (∀ j : Fin 99999, (ids (ix1 ⟨j.val, by omega⟩)).toInt ≤ (ids (ix1 ⟨j.val + 1, by omega⟩)).toInt)
    ∧ (∀ k : Fin 64, FloatOps.cmpf .oeq (b1 (ix1 k)) (Scalar.ofBits .f32 0x00000000#32) = 1#1)
    ∧ FloatOps.cmpf .oeq (b2 (ix1 0)) (Scalar.ofBits .f32 0x00000000#32) = 1#1
    ∧ ∀ j : Fin 100000, FloatOps.cmpf .ole (Host.absf (scoresOf x w1 w2) (ix2 j 0)) (Scalar.ofBits .f32 0x42700000#32) = 1#1 := by
  have e := congrFun e ix0
  dsimp only [fn, fn_part1] at e
  obtain ⟨e, hs⟩ := IntOp.andi_eq_one.1 e
  obtain ⟨e, hb2⟩ := IntOp.andi_eq_one.1 e
  obtain ⟨e, hb1⟩ := IntOp.andi_eq_one.1 e
  obtain ⟨hr, ho⟩ := IntOp.andi_eq_one.1 e
  refine ⟨fun j => ?_, fun j => ?_, fun k => ?_, ?_, fun j => ?_⟩
  · obtain ⟨h1, h2⟩ := IntOp.andi_eq_one.1 (Host.reduce_andi_all _ _ _ _ _ hr (ix1 j))
    exact ⟨IntOp.cmpi_sge.1 h1, IntOp.cmpi_slt.1 h2⟩
  · have h := IntOp.cmpi_sle.1 (Host.reduce_andi_all _ _ _ _ _ ho (ix1 j))
    rw [extractStridedSlice_apply _ _ _ _ (ix1 ⟨j.val, by omega⟩) (fun a => by match a with | ⟨0, _⟩ => exact (Nat.zero_add _).symm),
      extractStridedSlice_apply _ _ _ _ (ix1 ⟨j.val + 1, by omega⟩) (fun a => by match a with | ⟨0, _⟩ => exact Nat.add_comm _ _)] at h
    exact h
  · exact Host.reduce_andi_all _ _ _ _ _ hb1 (ix1 k)
  · exact Host.reduce_andi_all _ _ _ _ _ hb2 (ix1 0)
  · exact Host.reduce_andi_all _ _ _ _ _ hs (ix2 j 0)

/-- Every graph id, as a natural number, is below 256. -/
theorem id_lt (e : fn x ids w1 b1 w2 b2 = fun _ => 1#1) (j : Fin 100000) : (ids (ix1 j)).toNat < 256 :=
  Pre_in_range.Pool.word_lt ((parts x ids w1 b1 w2 b2 e).1 j)

/-- The graph ids never decrease. -/
theorem id_mono (e : fn x ids w1 b1 w2 b2 = fun _ => 1#1) (j k : Fin 100000) (h : j ≤ k) :
    (ids (ix1 j)).toNat ≤ (ids (ix1 k)).toNat := by
  have step : ∀ n (h1 : n + 1 < 100000), (ids (ix1 ⟨n, by omega⟩)).toNat ≤ (ids (ix1 ⟨n + 1, h1⟩)).toNat := fun n h1 => by
    have ha := id_lt x ids w1 b1 w2 b2 e ⟨n, by omega⟩
    have hb := id_lt x ids w1 b1 w2 b2 e ⟨n + 1, h1⟩
    have hs : (ids (ix1 ⟨n, by omega⟩)).toInt ≤ (ids (ix1 ⟨n + 1, h1⟩)).toInt := (parts x ids w1 b1 w2 b2 e).2.1 ⟨n, by omega⟩
    rw [BitVec.toInt_eq_toNat_of_lt (by omega), BitVec.toInt_eq_toNat_of_lt (by omega)] at hs
    omega
  have go : ∀ d n (h1 : n + d < 100000), (ids (ix1 ⟨n, by omega⟩)).toNat ≤ (ids (ix1 ⟨n + d, h1⟩)).toNat := by
    intro d
    induction d with
    | zero => exact fun n _ => le_refl _
    | succ d ih => exact fun n h1 => (ih n (by omega)).trans (step (n + d) h1)
  have := go (k.val - j.val) j.val (by have := k.isLt; have : j.val ≤ k.val := h; omega)
  have hk : (⟨j.val + (k.val - j.val), by have := k.isLt; have : j.val ≤ k.val := h; omega⟩ : Fin 100000) = k :=
    Fin.ext (by have : j.val ≤ k.val := h; show j.val + (k.val - j.val) = k.val; omega)
  rwa [hk] at this

end

end Cert.Pre_inputs.Pool

end
-- ==== Proof.Same.lean ====
/-
  Hand-written, untrusted. No operation is rewritten between the kernel as printed and the kernel read exactly, so the two
  programs are one: the same body, the same table of bodies, the same main.
-/
module

public import proofs.«01_k».proof.Proof.Gen.Kernel
public import proofs.«01_k».proof.Proof.Gen.KernelIdeal

@[expose] public section

noncomputable section

namespace Cert.Kernel.Pool

open Idealize.ShloMosaic

variable {F : FTy → Type} [FloatOps F]

/-- The two bodies are one. -/
theorem body_same : @Cert.Kernel.cc0__body F _ _ = @Cert.KernelIdeal.cc0__body F _ _ := rfl

/-- The two tables of kernel bodies are one. -/
theorem table_same : Cert.Kernel.defs₀ (F := F) = Cert.KernelIdeal.defs₀ (F := F) := by
  unfold Cert.Kernel.defs₀ Cert.KernelIdeal.defs₀
  congr 1
  funext q a
  obtain ⟨_ | n, h⟩ := q
  · obtain ⟨t, s⟩ := a
    exact congrFun (congrFun (congrFun (congrFun (congrFun (congrFun (congrFun (congrFun (congrFun (congrFun (congrFun (congrFun
      (congrFun (congrFun (congrFun (congrFun (congrFun (congrFun (congrFun (congrFun (congrFun body_same _) _) _) _) _) _) _) _) _)
      _) _) _) _) _) _) _) _) _) _) _) _
  · exact absurd h (by omega)

/-- The two tables of all bodies are one. -/
theorem defs_same : Cert.Kernel.defs (F := F) = Cert.KernelIdeal.defs (F := F) := by
  unfold Cert.Kernel.defs Cert.KernelIdeal.defs
  congr 1
  exact table_same

/-- The two mains are one. -/
theorem main_same : Cert.Kernel.main (F := F) = Cert.KernelIdeal.main (F := F) := rfl

end Cert.Kernel.Pool

end
-- ==== Proof.Frames.lean ====
/-
  Hand-written, untrusted. The frame claims: on inputs the precondition admits the kernel runs to its end with its arguments as
  they were and every counter at zero, as printed and read exactly; and so does the reference on every input.
-/
module

public import proofs.«01_k».proof.Defs
public import proofs.«01_k».proof.Proof.Outcome
public import proofs.«01_k».proof.Proof.Pre
public import proofs.«01_k».proof.Proof.Same
public import proofs.«01_k».proof.Proof.Gen.ReferenceIdeal.Run
public import Idealize.ShloMosaic.Lib.Quiescent

@[expose] public section

noncomputable section

namespace Cert.Pool

open Idealize.ShloMosaic Idealize.ShloMosaic.TcCoe Idealize.SL.Sem

variable {F : FTy → Type} [FloatOps F]

/-- The precondition gives sorted ids below 256. -/
theorem sorted_of_pre (m : (ℓ : Loc KernelIdeal.nD KernelIdeal.τ KernelIdeal.sig) → Buf (Elt F) ℓ)
    (h : ∀ c : Dev KernelIdeal.nD, Pre_inputs.fn (F := F) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      (m ((c.tc : Thread KernelIdeal.nD KernelIdeal.τ).loc KernelIdeal.main_arg4))
      (m ((c.tc : Thread KernelIdeal.nD KernelIdeal.τ).loc KernelIdeal.main_arg5)) = fun _ => 1#1) :
    KernelIdeal.Pool.Sorted m := fun c =>
  ⟨Pre_inputs.Pool.id_lt _ _ _ _ _ _ (h c), Pre_inputs.Pool.id_mono _ _ _ _ _ _ (h c)⟩

/-- The kernel at any value instance, with ids below 256: it runs to its end, its arguments stay and every counter ends at zero. -/
theorem frame_of_lt (m : (ℓ : Loc KernelIdeal.nD KernelIdeal.τ KernelIdeal.sig) → Buf (Elt F) ℓ)
    (ρ : Dev KernelIdeal.nD → PrngReg)
    (h : ∀ (c : Dev KernelIdeal.nD) (j : Fin 100000), (KernelIdeal.Pool.idsA1 m c (ValueIdx.ix1 j)).toNat < 256) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5))
      ∧ r.2.sem = fun _ => 0) :=
  (θ_run KernelIdeal.defs _ _).mono (fun _ h => ⟨fun c => (h.1 c).2, h.2⟩)
    (KernelIdeal.Pool.run_outcome m ρ (KernelIdeal.Pool.inRange_of_lt m h))

/-- `frame` of the kernel read exactly. -/
theorem frame_ideal : Cert.quiescent_KernelIdeal := fun m ρ h =>
  frame_of_lt m ρ fun c => Pre_in_range.Pool.id_lt _ _ _ _ _ _ (h c)

/-- `frame` of the kernel as printed: it is the same program. -/
theorem frame_kernel : Cert.quiescent_Kernel := fun m ρ h => by
  rw [Kernel.Pool.defs_same]
  exact frame_of_lt (F := Bits) m ρ fun c => Pre_in_range.Pool.id_lt _ _ _ _ _ _ (h c)

/-- `frame` of the reference: a line of array operations, with no counter at all. -/
theorem frame_reference : Cert.quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

end Cert.Pool

end
-- ==== Proof.Accum.lean ====
/-
  Hand-written, untrusted. What the two accumulators hold after the steps, at the ideal values. A block's row with id `r` is
  added to row `r` of the accumulators by exactly one of the windows the block's step visits, since the ids of a block lie
  between its first and its last id; so after the steps row `r` holds the sums over all rows seen whose id is `r`.
-/
module

public import proofs.«01_k».proof.Proof.Blocks
public import Idealize.ShloMosaic.Lib.MatmulPlain
public import Idealize.ShloMosaic.Lib.ValueLayout
public import Idealize.ShloMosaic.Lib.ValueLayoutCasts
public import Idealize.ShloMosaic.Lib.Pointwise.Reduce

@[expose] public section

noncomputable section

namespace Cert.KernelIdeal.Pool

open Cert.KernelIdeal Cert.KernelIdeal.Gen
open Idealize.ShloMosaic hiding ix1 ix2 ix3
open Idealize.ShloMosaic.TcCoe Idealize.ShloMosaic.ValueIdx

/-! ## A block's contribution -/

section Block

variable (v4 : FVec Ideal S4000x128 .bf16) (v6 : IVec S1x4000 32) (v20 : FVec Ideal S1x4000 .f32)

/-- What the block adds to row `r`, column `d` of the weighted rows. -/
def gainA (r : ℕ) (d : Fin 128) : EReal :=
  ∑ j : Fin 4000, if (v6 (ix2 0 j)).toNat = r then v20 (ix2 0 j) * v4 (ix2 j d) else 0

/-- What the block adds to row `r` of the weights. -/
def gainS (r : ℕ) : EReal := ∑ j : Fin 4000, if (v6 (ix2 0 j)).toNat = r then v20 (ix2 0 j) else 0

/-- `st'` is `st` with the block's contribution added to the rows from `lo` up to, not including, `hi`. -/
def Grown (lo hi : ℕ) (st st' : St Ideal) : Prop :=
  (∀ (r : Fin 272) (d : Fin 128), st'.1 (ix2 r d) = st.1 (ix2 r d) + if lo ≤ r.val ∧ r.val < hi then gainA v4 v6 v20 r.val d else 0)
    ∧ ∀ r : Fin 272, st'.2 (ix2 r 0) = st.2 (ix2 r 0) + if lo ≤ r.val ∧ r.val < hi then gainS v6 v20 r.val else 0

variable {v4 v6 v20}

/-- Growing on two adjoining ranges of rows is growing on both together. -/
theorem Grown.trans {lo mid hi : ℕ} {st st' st'' : St Ideal} (h₁ : lo ≤ mid) (h₂ : mid ≤ hi)
    (g : Grown v4 v6 v20 lo mid st st') (g' : Grown v4 v6 v20 mid hi st' st'') : Grown v4 v6 v20 lo hi st st'' := by
  have key : ∀ (r : ℕ) (a x : EReal), a + (if lo ≤ r ∧ r < mid then x else 0) + (if mid ≤ r ∧ r < hi then x else 0)
      = a + if lo ≤ r ∧ r < hi then x else 0 := by
    intro r a x
    by_cases h : lo ≤ r ∧ r < mid
    · rw [if_pos h, if_neg (show ¬(mid ≤ r ∧ r < hi) by omega), if_pos (show lo ≤ r ∧ r < hi by omega), add_zero]
    · rw [if_neg h, add_zero]
      by_cases h' : mid ≤ r ∧ r < hi
      · rw [if_pos h', if_pos (show lo ≤ r ∧ r < hi by omega)]
      · rw [if_neg h', if_neg (show ¬(lo ≤ r ∧ r < hi) by omega)]
  refine ⟨fun r d => ?_, fun r => ?_⟩
  · rw [g'.1 r d, g.1 r d]; exact key _ _ _
  · rw [g'.2 r, g.2 r]; exact key _ _ _

/-- A window's table read at a row and a column. -/
theorem hot_apply {w : BitVec 32} (hw : w.toNat < 256) (hv : ∀ j : Fin 4000, (v6 (ix2 0 j)).toNat < 256) (p : Fin 16) (j : Fin 4000) :
    hot v6 v20 w (ix2 p j) = if (v6 (ix2 0 j)).toNat = w.toNat + p.val then v20 (ix2 0 j) else 0 := by
  unfold hot
  rw [select_apply, broadcastTo_1b_ab_apply, shapeCast_self]
  have hc : cmpi .eq rowNos (broadcastTo S16x4000 (subi v6 (broadcast S1x4000 w)) broadcasts_S1x4000_S16x4000) (ix2 p j)
      = IntOp.cmpi .eq (BitVec.ofNat 32 p.val) (v6 (ix2 0 j) - w) := by
    show IntOp.cmpi .eq (rowNos (ix2 p j)) (broadcastTo S16x4000 (subi v6 (broadcast S1x4000 w)) broadcasts_S1x4000_S16x4000 (ix2 p j)) = _
    rw [broadcastTo_1b_ab_apply]
    have hn : rowNos (ix2 p j) = BitVec.ofNat 32 p.val := by
      unfold rowNos iota
      show BitVec.ofNat 32 (0 * 16 + p.val) = _
      rw [Nat.zero_mul, Nat.zero_add]
    rw [hn]
    rfl
  rw [hc]
  have hj := hv j
  have hp := p.isLt
  have hiff : IntOp.cmpi .eq (BitVec.ofNat 32 p.val) (v6 (ix2 0 j) - w) = 1#1 ↔ (v6 (ix2 0 j)).toNat = w.toNat + p.val := by
    rw [IntOp.cmpi_eq, ← BitVec.toNat_inj, BitVec.toNat_sub, BitVec.toNat_ofNat]
    omega
  by_cases h : (v6 (ix2 0 j)).toNat = w.toNat + p.val
  · rw [if_pos h, hiff.2 h, select_one]
  · rw [if_neg h, eq_zero_of_ne_one (fun q => h (hiff.1 q)), select_zero]
    exact Ideal.ofBits_zero_f32

/-- The product a window adds is the block's contribution to its rows. -/
theorem pay2_apply {w : BitVec 32} (hw : w.toNat < 256) (hv : ∀ j : Fin 4000, (v6 (ix2 0 j)).toNat < 256) (v : Vec Ideal S16x128 .f32)
    (p : Fin 16) (d : Fin 128) : k0_pay2 v4 (hot v6 v20 w) v (ix2 p d) = v (ix2 p d) + gainA v4 v6 v20 (w.toNat + p.val) d := by
  unfold k0_pay2
  rw [shapeCast_self, addf_apply]
  show v (ix2 p d) + FloatOps.matmul (DotDims.plain 16 4000 128) none (hot v6 v20 w) v4 (constant S16x128 .f32 0x00000000#32) (ix2 p d) = _
  rw [Ideal.matmul_plain_apply]
  congr 1
  show Ideal.ofBits .f32 0x00000000#32 + _ = _
  rw [Ideal.ofBits_zero_f32, zero_add]
  unfold gainA
  refine Finset.sum_congr rfl fun j _ => ?_
  rw [hot_apply hw hv]
  by_cases h : (v6 (ix2 0 j)).toNat = w.toNat + p.val
  · rw [if_pos h, if_pos h]
  · rw [if_neg h, if_neg h, zero_mul]

/-- The sums a window adds are the block's contribution to its rows. -/
theorem pay1_apply {w : BitVec 32} (hw : w.toNat < 256) (hv : ∀ j : Fin 4000, (v6 (ix2 0 j)).toNat < 256) (v : Vec Ideal S16x1 .f32)
    (p : Fin 16) : k0_pay1 (hotSum v6 v20 w) v (ix2 p 0) = v (ix2 p 0) + gainS v6 v20 (w.toNat + p.val) := by
  unfold k0_pay1
  rw [shapeCast_self, addf_apply, shapeCast_a_a1_apply]
  show v (ix2 p 0) + hotSum v6 v20 w (ix1 p) = _
  congr 1
  unfold hotSum
  refine (Ideal.reduceAdd_r2_a1 reduces_S16x4000_S16 (hot v6 v20 w) (ix1 p)).trans ?_
  unfold gainS
  exact Finset.sum_congr rfl fun j _ => hot_apply hw hv p j

/-- One window at row word `w` adds the block's contribution to the sixteen rows from `w`. -/
theorem visit_grown {w : BitVec 32} (hw : w.toNat < 256) (hv : ∀ j : Fin 4000, (v6 (ix2 0 j)).toNat < 256) (st : St Ideal) :
    Grown v4 v6 v20 w.toNat (w.toNat + 16) st (visit v4 v6 v20 w st) := by
  have hA : ∀ d, (![w.toNat, 0] : Fin 2 → ℕ) d + S16x128.size d ≤ S272x128.size d := by
    intro d
    match d with
    | ⟨0, _⟩ => show w.toNat + 16 ≤ 272; omega
    | ⟨1, _⟩ => show 0 + 128 ≤ 128; omega
  have hS : ∀ d, (![w.toNat, 0] : Fin 2 → ℕ) d + S16x1.size d ≤ S272x1.size d := by
    intro d
    match d with
    | ⟨0, _⟩ => show w.toNat + 16 ≤ 272; omega
    | ⟨1, _⟩ => show 0 + 1 ≤ 1; omega
  unfold visit
  rw [rowsA_of _ _ hA, rowsS_of _ _ hS]
  refine ⟨fun r d => ?_, fun r => ?_⟩
  · by_cases h : w.toNat ≤ r.val ∧ r.val < w.toNat + 16
    · have hd : ∀ a : Fin 2, (![w.toNat, 0] : Fin 2 → ℕ) a ≤ ((ix2 r d : S272x128.Idx) a).val
          ∧ ((ix2 r d : S272x128.Idx) a).val < (![w.toNat, 0] : Fin 2 → ℕ) a + S16x128.size a := by
        intro a
        match a with
        | ⟨0, _⟩ => exact h
        | ⟨1, _⟩ => exact ⟨Nat.zero_le _, by show d.val < 0 + 128; omega⟩
      rw [if_pos h]
      show VecWindow.put (s := S272x128) _ _ _ _ (ix2 r d) = _
      unfold VecWindow.put
      rw [dif_pos hd]
      have hi : Rect.unitLocal (s := S272x128) (off := ![w.toNat, 0]) (size := S16x128.size) (ix2 r d) hd
          = ix2 (⟨r.val - w.toNat, by omega⟩ : Fin 16) d := by
        funext a
        match a with
        | ⟨0, _⟩ => rfl
        | ⟨1, _⟩ => rfl
      rw [hi]
      refine (pay2_apply hw hv _ _ _).trans ?_
      have he : w.toNat + (r.val - w.toNat) = r.val := by omega
      show _ + gainA v4 v6 v20 (w.toNat + (r.val - w.toNat)) d = _
      rw [he]
      congr 1
      refine congrArg st.1 (funext fun a => Fin.ext ?_)
      match a with
      | ⟨0, _⟩ => show w.toNat + 1 * (r.val - w.toNat) = r.val; omega
      | ⟨1, _⟩ => show 0 + 1 * d.val = d.val; omega
    · rw [if_neg h, add_zero]
      show VecWindow.put (s := S272x128) _ _ _ _ (ix2 r d) = _
      unfold VecWindow.put
      exact dif_neg fun q => h (q 0)
  · by_cases h : w.toNat ≤ r.val ∧ r.val < w.toNat + 16
    · have hd : ∀ a : Fin 2, (![w.toNat, 0] : Fin 2 → ℕ) a ≤ ((ix2 r 0 : S272x1.Idx) a).val
          ∧ ((ix2 r 0 : S272x1.Idx) a).val < (![w.toNat, 0] : Fin 2 → ℕ) a + S16x1.size a := by
        intro a
        match a with
        | ⟨0, _⟩ => exact h
        | ⟨1, _⟩ => exact ⟨Nat.zero_le _, Nat.one_pos⟩
      rw [if_pos h]
      show VecWindow.put (s := S272x1) _ _ _ _ (ix2 r 0) = _
      unfold VecWindow.put
      rw [dif_pos hd]
      have hi : Rect.unitLocal (s := S272x1) (off := ![w.toNat, 0]) (size := S16x1.size) (ix2 r 0) hd
          = ix2 (⟨r.val - w.toNat, by omega⟩ : Fin 16) (0 : Fin 1) := by
        funext a
        match a with
        | ⟨0, _⟩ => rfl
        | ⟨1, _⟩ => rfl
      rw [hi]
      refine (pay1_apply hw hv _ _).trans ?_
      have he : w.toNat + (r.val - w.toNat) = r.val := by omega
      show _ + gainS v6 v20 (w.toNat + (r.val - w.toNat)) = _
      rw [he]
      congr 1
      refine congrArg st.2 (funext fun a => Fin.ext ?_)
      match a with
      | ⟨0, _⟩ => show w.toNat + 1 * (r.val - w.toNat) = r.val; omega
      | ⟨1, _⟩ => rfl
    · rw [if_neg h, add_zero]
      show VecWindow.put (s := S272x1) _ _ _ _ (ix2 r 0) = _
      unfold VecWindow.put
      exact dif_neg fun q => h (q 0)

/-- The later windows together add the block's contribution to their rows. -/
theorem later_grown {a : BitVec 32} (hv : ∀ j : Fin 4000, (v6 (ix2 0 j)).toNat < 256) (st : St Ideal) :
    ∀ n : ℕ, a.toNat + 16 * n < 256 → Grown v4 v6 v20 (a.toNat + 16) (a.toNat + 16 * (n + 1)) st (later v4 v6 v20 a st n)
  | 0, _ => ⟨fun r d => by rw [if_neg (by omega), add_zero]; rfl, fun r => by rw [if_neg (by omega), add_zero]; rfl⟩
  | n + 1, h => by
    have hr : (rowWord a n).toNat = a.toNat + 16 * (n + 1) := rowWord_toNat (by omega) (by omega)
    refine Grown.trans (mid := a.toNat + 16 * (n + 1)) (by omega) (by omega) (later_grown hv st n (by omega)) ?_
    have g := visit_grown (v4 := v4) (v20 := v20) (w := rowWord a n) (by omega) hv (later v4 v6 v20 a st n)
    rw [hr] at g
    exact g

end Block

/-- A whole step adds to every row what the block contributes to it. -/
theorem stepSt_grown (x : Vec Ideal S4000x128 .f32) (ids : Vec Ideal S1x1x4000 .i32) (w1 : Vec Ideal S128x64 .f32) (w2 : Vec Ideal S1x64 .f32)
    {a b : BitVec 32} (hab : a.toNat ≤ b.toNat) (hb : b.toNat < 256)
    (hv : ∀ j : Fin 4000, a.toNat ≤ (k0_pay13 ids (ix2 0 j)).toNat ∧ (k0_pay13 ids (ix2 0 j)).toNat ≤ b.toNat) (st : St Ideal) :
    (∀ (r : Fin 272) (d : Fin 128), (stepSt x ids w1 w2 a b st).1 (ix2 r d)
        = st.1 (ix2 r d) + gainA (k0_pay12 x) (k0_pay13 ids) (k0_pay14 x w1 w2) r.val d)
      ∧ ∀ r : Fin 272, (stepSt x ids w1 w2 a b st).2 (ix2 r 0) = st.2 (ix2 r 0) + gainS (k0_pay13 ids) (k0_pay14 x w1 w2) r.val := by
  have hv' : ∀ j : Fin 4000, (k0_pay13 ids (ix2 0 j)).toNat < 256 := fun j => by have := hv j; omega
  obtain ⟨n, hn, h1, h2⟩ : ∃ n : ℕ, (if k0_cond2 a b = 1#1 then (k0_t1_loop a b).trips else 0) = n ∧ a.toNat + 16 * n < 256
      ∧ b.toNat < a.toNat + 16 * (n + 1) := by
    by_cases h : k0_cond2 a b = 1#1
    · rw [if_pos h, t1_trips hab hb]
      exact ⟨_, rfl, by omega, by omega⟩
    · rw [if_neg h]
      rw [cond2_iff (by omega) hb] at h
      exact ⟨0, rfl, by omega, by omega⟩
  have g : Grown (k0_pay12 x) (k0_pay13 ids) (k0_pay14 x w1 w2) a.toNat (a.toNat + 16 * (n + 1)) st (stepSt x ids w1 w2 a b st) := by
    unfold stepSt
    rw [hn]
    exact Grown.trans (mid := a.toNat + 16) (by omega) (by omega) (visit_grown (by omega) hv' st) (later_grown hv' _ n h1)
  refine ⟨fun r d => ?_, fun r => ?_⟩
  · rw [g.1 r d]
    by_cases h : a.toNat ≤ r.val ∧ r.val < a.toNat + 16 * (n + 1)
    · rw [if_pos h]
    · rw [if_neg h]
      congr 1
      exact (Finset.sum_eq_zero fun j _ => if_neg (by have := hv j; omega)).symm
  · rw [g.2 r]
    by_cases h : a.toNat ≤ r.val ∧ r.val < a.toNat + 16 * (n + 1)
    · rw [if_pos h]
    · rw [if_neg h]
      congr 1
      exact (Finset.sum_eq_zero fun j _ => if_neg (by have := hv j; omega)).symm

end Cert.KernelIdeal.Pool

end
-- ==== Proof.Totals.lean ====
/-
  Hand-written, untrusted. The accumulators after all steps and the kernel's result at an index, at the ideal values: sums over
  all the argument's rows, each row's weight the exponential of its score held between minus sixty and sixty.
-/
module

public import proofs.«01_k».proof.Proof.Accum
public import proofs.«01_k».proof.Proof.Outcome

@[expose] public section

noncomputable section

namespace Cert.KernelIdeal.Pool

open Cert.KernelIdeal Cert.KernelIdeal.Gen
open Idealize.ShloMosaic hiding ix1 ix2 ix3
open Idealize.ShloMosaic.TcCoe Idealize.ShloMosaic.ValueIdx

/-- A row's score: the two layers' product, without the biases. -/
def scoreOf (x : FVec Ideal S100000x128 .f32) (w1 : FVec Ideal S128x64 .f32) (w2 : FVec Ideal S64x1 .f32) (j : Fin 100000) : EReal :=
  ∑ k : Fin 64, Ideal.tanh (∑ d : Fin 128, x (ix2 j d) * w1 (ix2 d k)) * w2 (ix2 k 0)

/-- A row's weight as the kernel computes it: the exponential of the score held between minus sixty and sixty. -/
def weightOf (x : FVec Ideal S100000x128 .f32) (w1 : FVec Ideal S128x64 .f32) (w2 : FVec Ideal S64x1 .f32) (j : Fin 100000) : EReal :=
  Ideal.exp (min (Ideal.ofBits .f32 0x42700000#32) (max (Ideal.ofBits .f32 0xC2700000#32) (scoreOf x w1 w2 j)))

/-- The weights a block computes, read at a row. -/
theorem pay14_apply (x : Vec Ideal S4000x128 .f32) (w1 : Vec Ideal S128x64 .f32) (w2 : Vec Ideal S1x64 .f32) (j : Fin 4000) :
    k0_pay14 x w1 w2 (ix2 0 j) = Ideal.exp (min (Ideal.ofBits .f32 0x42700000#32) (max (Ideal.ofBits .f32 0xC2700000#32)
      (∑ k : Fin 64, Ideal.tanh (∑ d : Fin 128, x (ix2 j d) * w1 (ix2 d k)) * w2 (ix2 0 k)))) := by
  unfold k0_pay14
  show Ideal.exp (min (Ideal.ofBits .f32 0x42700000#32) (max (Ideal.ofBits .f32 0xC2700000#32)
    (FloatOps.matmul (F := Ideal) (φ₁ := .bf16) (φ₂ := .bf16) (DotDims.transposedRhs 1 64 4000) none (shapeCast S1x64 w2 shapeCasts_S1x64_S1x64)
      (fun i => Ideal.tanh (FloatOps.matmul (F := Ideal) (φ₁ := .bf16) (φ₂ := .bf16) (DotDims.plain 4000 128 64) none x w1
        (constant S4000x64 .f32 0x00000000#32) i))
      (constant S1x4000 .f32 0x00000000#32) (ix2 0 j)))) = _
  rw [Ideal.matmul_transposedRhs_apply, shapeCast_self]
  show Ideal.exp (min _ (max _ (Ideal.ofBits .f32 0x00000000#32 + _))) = _
  rw [Ideal.ofBits_zero_f32, zero_add]
  congr 3
  refine Finset.sum_congr rfl fun k _ => ?_
  rw [Ideal.matmul_plain_apply, mul_comm]
  show Ideal.tanh (Ideal.ofBits .f32 0x00000000#32 + _) * _ = _
  rw [Ideal.ofBits_zero_f32, zero_add]

variable (m : (ℓ : Loc nD τ sig) → Buf (Elt Ideal) ℓ)

/-- A device's weights, one per row of the argument. -/
abbrev wts (c : Dev nD) (j : Fin 100000) : EReal := weightOf (rowsA0 m c) (w1A2 m c) (w2A4 m c) j

/-- The summand of row number `i` at segment `r`: `f` of the row where its id is `r`, zero elsewhere and past the last row. -/
def term (c : Dev nD) (f : Fin 100000 → EReal) (r i : ℕ) : EReal :=
  if h : i < 100000 then (if (idsA1 m c (ix1 ⟨i, h⟩)).toNat = r then f ⟨i, h⟩ else 0) else 0

theorem term_of (c : Dev nD) (f : Fin 100000 → EReal) (r : ℕ) (j : Fin 100000) :
    term m c f r j.val = if (idsA1 m c (ix1 j)).toNat = r then f j else 0 := dif_pos j.isLt

/-- A block's weight is the row's weight. -/
theorem blockWt (c : Dev nD) (t : Fin cfg0.N) (j : Fin 4000) :
    k0_pay14 (rowsB m c t) (w1B m c t) (w2B m c t) (ix2 0 j) = wts m c (rowIx t j) := by
  rw [pay14_apply]
  unfold wts weightOf scoreOf
  simp only [rowsB_apply, w1B_apply, w2B_apply]

/-- A block's id is the row's id. -/
theorem blockId (c : Dev nD) (t : Fin cfg0.N) (j : Fin 4000) :
    k0_pay13 (idsB m c t) (ix2 0 j) = idsA1 m c (ix1 (rowIx t j)) := by
  refine Eq.trans ?_ (idsB_apply m c t j)
  unfold k0_pay13
  exact shapeCast_1ab_ab_apply (idsB m c t) shapeCasts_S1x1x4000_S1x4000 0 j

/-- A block's contribution to the weighted rows, in the argument's rows. -/
theorem gainA_eq (c : Dev nD) (t : Fin cfg0.N) (r : ℕ) (d : Fin 128) :
    gainA (k0_pay12 (rowsB m c t)) (k0_pay13 (idsB m c t)) (k0_pay14 (rowsB m c t) (w1B m c t) (w2B m c t)) r d
      = ∑ i ∈ Finset.range 4000, term m c (fun j => wts m c j * rowsA0 m c (ix2 j d)) r (4000 * t.val + i) := by
  rw [Finset.sum_range]
  unfold gainA
  refine Finset.sum_congr rfl fun j _ => ?_
  refine Eq.trans ?_ (term_of m c _ r (rowIx t j)).symm
  rw [blockId, blockWt]
  show (if _ then _ * rowsB m c t (ix2 j d) else 0) = _
  rw [rowsB_apply]

/-- A block's contribution to the weights, in the argument's rows. -/
theorem gainS_eq (c : Dev nD) (t : Fin cfg0.N) (r : ℕ) :
    gainS (k0_pay13 (idsB m c t)) (k0_pay14 (rowsB m c t) (w1B m c t) (w2B m c t)) r
      = ∑ i ∈ Finset.range 4000, term m c (wts m c) r (4000 * t.val + i) := by
  rw [Finset.sum_range]
  unfold gainS
  refine Finset.sum_congr rfl fun j _ => ?_
  refine Eq.trans ?_ (term_of m c _ r (rowIx t j)).symm
  rw [blockId, blockWt]

/-- After `n` steps each accumulator holds the sums over the rows of the first `n` blocks. -/
theorem stAt_sum (hs : Sorted m) (c : Dev nD) : ∀ n : ℕ, n ≤ 25 →
    (∀ (r : Fin 272) (d : Fin 128), (stAt m c n).1 (ix2 r d)
        = ∑ i ∈ Finset.range (4000 * n), term m c (fun j => wts m c j * rowsA0 m c (ix2 j d)) r.val i)
      ∧ ∀ r : Fin 272, (stAt m c n).2 (ix2 r 0) = ∑ i ∈ Finset.range (4000 * n), term m c (wts m c) r.val i
  | 0, _ => by
    refine ⟨fun r d => ?_, fun r => ?_⟩
    · show k0_pay10 (ix2 r d) = _
      unfold k0_pay10
      rw [shapeCast_self]
      exact Ideal.ofBits_zero_f32
    · show k0_pay11 (ix2 r 0) = _
      unfold k0_pay11
      rw [shapeCast_self]
      exact Ideal.ofBits_zero_f32
  | n + 1, h => by
    have hn : n < cfg0.N := by rw [show cfg0.N = 25 from N_0]; omega
    have ih := stAt_sum hs c n (by omega)
    have e : stAt m c (n + 1) = stepSt (rowsB m c ⟨n, hn⟩) (idsB m c ⟨n, hn⟩) (w1B m c ⟨n, hn⟩) (w2B m c ⟨n, hn⟩)
        (firstId (idsS m c ⟨n, hn⟩)) (lastId (idsS m c ⟨n, hn⟩)) (stAt m c n) := by
      rw [stAt, dif_pos hn]
      unfold afterSt
      by_cases h0 : n = 0
      · subst h0
        rw [if_pos ((cond1_iff ⟨0, hn⟩).2 rfl)]
        rfl
      · rw [if_neg fun q => h0 ((cond1_iff ⟨n, hn⟩).1 q)]
    have hab := first_le_last m hs c ⟨n, hn⟩
    have hb := (inRange_of_lt m (fun c => (hs c).1) c ⟨n, hn⟩).2
    have g := stepSt_grown (rowsB m c ⟨n, hn⟩) (idsB m c ⟨n, hn⟩) (w1B m c ⟨n, hn⟩) (w2B m c ⟨n, hn⟩) hab hb (fun j => by
      rw [blockId, firstId_eq, lastId_eq]
      have := j.isLt
      exact ⟨(hs c).2 _ _ (by show 4000 * n + 0 ≤ 4000 * n + j.val; omega), (hs c).2 _ _ (by show 4000 * n + j.val ≤ 4000 * n + 3999; omega)⟩)
      (stAt m c n)
    rw [e, Nat.mul_succ]
    refine ⟨fun r d => ?_, fun r => ?_⟩
    · rw [g.1 r d, ih.1 r d, gainA_eq, Finset.sum_range_add]
    · rw [g.2 r, ih.2 r, gainS_eq, Finset.sum_range_add]

/-- The kernel's result at a segment and a column: the sum of the segment's weighted rows over the sum of its weights plus the
    small constant. -/
theorem outcome_apply (hs : Sorted m) (c : Dev nD) (r : Fin 256) (d : Fin 128) :
    outcome m c (ix2 r d)
      = Ideal.div (∑ j : Fin 100000, if (idsA1 m c (ix1 j)).toNat = r.val then wts m c j * rowsA0 m c (ix2 j d) else 0)
          ((∑ j : Fin 100000, if (idsA1 m c (ix1 j)).toNat = r.val then wts m c j else 0) + Ideal.ofBits .f32 0x24E69595#32) := by
  obtain ⟨hA, hS⟩ := stAt_sum m hs c 25 (Nat.le_refl _)
  have e1 := hA ⟨r.val, by omega⟩ d
  have e2 := hS ⟨r.val, by omega⟩
  rw [show 4000 * 25 = 100000 from rfl, Finset.sum_range] at e1 e2
  simp only [term_of] at e1 e2
  rw [← e1, ← e2]
  unfold outcome quot k0_pay9
  rw [divf_apply, broadcastTo_apply _ _ (ix2 r d) (ix2 r (0 : Fin 1)) (fun a => by match a with | ⟨0, _⟩ => rfl | ⟨1, _⟩ => rfl), addf_apply]
  show Ideal.div ((stAt m c 25).1 _) ((stAt m c 25).2 _ + Ideal.ofBits .f32 0x24E69595#32) = _
  have i1 : (Rect.unit (s := S272x128) ![0, 0] S256x128.size inb_S272x128_S256x128_0_0).emb (ix2 r d) = ix2 (⟨r.val, by omega⟩ : Fin 272) d := by
    funext a
    apply Fin.ext
    match a with
    | ⟨0, _⟩ => show 0 + 1 * r.val = r.val; omega
    | ⟨1, _⟩ => show 0 + 1 * d.val = d.val; omega
  have i2 : (Rect.unit (s := S272x1) ![0, 0] S256x1.size inb_S272x1_S256x1_0_0).emb (ix2 r (0 : Fin 1)) = ix2 (⟨r.val, by omega⟩ : Fin 272) (0 : Fin 1) := by
    funext a
    apply Fin.ext
    match a with
    | ⟨0, _⟩ => show 0 + 1 * r.val = r.val; omega
    | ⟨1, _⟩ => rfl
  exact congrArg₂ Ideal.div (congrArg (stAt m c 25).1 i1) (congrArg (· + Ideal.ofBits .f32 0x24E69595#32) (congrArg (stAt m c 25).2 i2))

end Cert.KernelIdeal.Pool

end
-- ==== Proof.Segment.lean ====
/-
  Hand-written, untrusted. Segment sums and the lookup of a row's segment read at an index, at the ideal values: adding updates
  at the ids' places gives, at segment `r`, the sum of the updates whose id is `r`; looking a table up at the ids gives a row its
  segment's entry. And the sums of weights as real numbers, and a division taken out of a sum.
-/
module

public import proofs.«01_k».proof.ReferenceIdeal
public import Idealize.ShloMosaic.PureOps.Ideal.Laws
public import Idealize.ShloMosaic.Lib.ValueIdx
public import Idealize.ShloMosaic.Lib.ValueIdxRank1
public import Idealize.ShloMosaic.Lib.Pipeline.Value
public import Idealize.ShloMosaic.Lib.Routing.OpsPair

@[expose] public section

noncomputable section

namespace Cert.ReferenceIdeal.Pool

open Cert.ReferenceIdeal Cert.ReferenceIdeal.Facts₀
open Idealize.ShloMosaic
open Idealize.ShloMosaic.ValueIdx

variable [Facts₀]
variable (ids : IVec S100000 32)

/-- The ids as a column, the form in which they are looked up and added at. -/
abbrev column (v : IVec S100000 32) : IVec S100000x1 32 := broadcastInDim S100000x1 ![0] bcast_S100000_S100000x1_0 v

theorem column_apply (v : IVec S100000 32) (j : Fin 100000) : column v (ix2 j 0) = v (ix1 j) :=
  broadcastInDim_apply _ _ _ _ _ fun a => by match a with | ⟨0, _⟩ => rfl

/-- A segment sum of numbers. -/
theorem segmentSum_apply (z : FVec Ideal S256 .f32) (u : FVec Ideal S100000 .f32) (r : Fin 256) :
    Host.scatterAdd scatter_S256_S100000x1_S100000_n_0_0_1 z (column ids) u (ix1 r)
      = z (ix1 r) + ∑ j : Fin 100000, if (ids (ix1 j)).toInt = (r.val : Int) then u (ix1 j) else 0 := by
  show z (ix1 r) + ∑ j ∈ Finset.univ.filter (fun j => scatter_S256_S100000x1_S100000_n_0_0_1.resultIdx? j (column ids) = some (ix1 r)), u j = _
  rw [Finset.sum_filter, ← Equiv.sum_comp (idxEquiv1 (n := 100000)).symm]
  refine congrArg (z (ix1 r) + ·) (Finset.sum_congr rfl fun j _ => ?_)
  refine if_congr ?_ rfl rfl
  show scatter_S256_S100000x1_S100000_n_0_0_1.resultIdx? (ix1 j) (column ids) = some (ix1 r) ↔ _
  rw [Routing.resultIdx?_ix1]
  have h1 : scatter_S256_S100000x1_S100000_n_0_0_1.start (ix1 j) (column ids) 0 = (ids (ix1 j)).toInt := by
    rw [← column_apply ids j]
    unfold ScatterDims.start
    refine (dif_pos (show (0 : Fin 1) ∈ [(0 : Fin 1)] from List.mem_singleton.mpr rfl)).trans ?_
    refine congrArg (fun i => (column ids i).toInt) (funext fun a => Fin.ext ?_)
    match a with
    | ⟨0, _⟩ => rfl
    | ⟨1, _⟩ => rfl
  have h2 : scatter_S256_S100000x1_S100000_n_0_0_1.window (ix1 j) 0 = 0 := rfl
  rw [h1, h2]
  simp

/-- A segment sum of rows. -/
theorem segmentSumRows_apply (z : FVec Ideal S256x128 .f32) (u : FVec Ideal S100000x128 .f32) (r : Fin 256) (d : Fin 128) :
    Host.scatterAdd scatter_S256x128_S100000x1_S100000x128_1_0_0_1 z (column ids) u (ix2 r d)
      = z (ix2 r d) + ∑ j : Fin 100000, if (ids (ix1 j)).toInt = (r.val : Int) then u (ix2 j d) else 0 := by
  show z (ix2 r d) + ∑ j ∈ Finset.univ.filter
    (fun j => scatter_S256x128_S100000x1_S100000x128_1_0_0_1.resultIdx? j (column ids) = some (ix2 r d)), u j = _
  rw [Finset.sum_filter, sum_idx2]
  refine congrArg (z (ix2 r d) + ·) (Finset.sum_congr rfl fun j _ => ?_)
  have key : ∀ b : Fin 128, (scatter_S256x128_S100000x1_S100000x128_1_0_0_1.resultIdx? (ix2 j b) (column ids) = some (ix2 r d))
      ↔ (ids (ix1 j)).toInt = (r.val : Int) ∧ b = d := by
    intro b
    rw [Routing.resultIdx?_ix2]
    have h1 : scatter_S256x128_S100000x1_S100000x128_1_0_0_1.start (ix2 j b) (column ids) 0 = (ids (ix1 j)).toInt := by
      rw [← column_apply ids j]
      unfold ScatterDims.start
      refine (dif_pos (show (0 : Fin 2) ∈ [(0 : Fin 2)] from List.mem_singleton.mpr rfl)).trans ?_
      refine congrArg (fun i => (column ids i).toInt) (funext fun a => Fin.ext ?_)
      match a with
      | ⟨0, _⟩ => rfl
      | ⟨1, _⟩ => rfl
    have h2 : scatter_S256x128_S100000x1_S100000x128_1_0_0_1.window (ix2 j b) 0 = 0 := rfl
    have h3 : scatter_S256x128_S100000x1_S100000x128_1_0_0_1.start (ix2 j b) (column ids) 1 = 0 := rfl
    have h4 : scatter_S256x128_S100000x1_S100000x128_1_0_0_1.window (ix2 j b) 1 = b.val := rfl
    rw [h1, h2, h3, h4, Fin.ext_iff]
    omega
  by_cases hj : (ids (ix1 j)).toInt = (r.val : Int)
  · rw [if_pos hj]
    refine (Finset.sum_eq_single d (fun b _ hb => if_neg fun q => hb ((key b).1 q).2) (fun q => (q (Finset.mem_univ _)).elim)).trans ?_
    exact if_pos ((key d).2 ⟨hj, rfl⟩)
  · rw [if_neg hj]
    exact Finset.sum_eq_zero fun b _ => if_neg fun q => hj ((key b).1 q).1

/-- The ids as they are looked up: a negative one counts from the end, so an id that is not negative stays. -/
theorem wrapped_apply (j : Fin 100000) (h : (ids (ix1 j)).toNat < 256) :
    select (cmpi .slt ids (broadcastInDim S100000 ![] bcast_S_S100000 (constantI S_ 32 0#32)))
      (addi ids (broadcastInDim S100000 ![] bcast_S_S100000 (constantI S_ 32 256#32))) ids (ix1 j) = ids (ix1 j) := by
  show Scalar.select (IntOp.cmpi .slt (ids (ix1 j)) 0#32) _ (ids (ix1 j)) = _
  exact Routing.wrap_of_lt _ _ (by omega)

/-- A lookup at ids in range. -/
theorem lookup_apply {α : Type} (t : S256.Idx → α) (v : IVec S100000 32) (j : Fin 100000) (h : (v (ix1 j)).toNat < 256) :
    Host.gather gather_S256_S100000x1_S100000_n_0_n_n_0_1_1 t (column v) (ix1 j) = t (ix1 ⟨(v (ix1 j)).toNat, h⟩) := by
  unfold Host.gather
  refine congrArg t (funext fun a => Fin.ext ?_)
  obtain rfl : a = 0 := Subsingleton.elim _ _
  show gather_S256_S100000x1_S100000_n_0_n_n_0_1_1.start (ix1 j) (column v) 0
    + gather_S256_S100000x1_S100000_n_0_n_n_0_1_1.batchCoord (ix1 j) 0 + gather_S256_S100000x1_S100000_n_0_n_n_0_1_1.offCoord (ix1 j) 0 = _
  have h1 : gather_S256_S100000x1_S100000_n_0_n_n_0_1_1.start (ix1 j) (column v) 0 = min (v (ix1 j)).toInt.toNat 255 := by
    rw [← column_apply v j]
    unfold GatherDims.start
    refine (dif_pos (show (0 : Fin 1) ∈ [(0 : Fin 1)] from List.mem_singleton.mpr rfl)).trans ?_
    refine congrArg (fun i => min (column v i).toInt.toNat 255) (funext fun a => Fin.ext ?_)
    match a with
    | ⟨0, _⟩ => rfl
    | ⟨1, _⟩ => rfl
  have h2 : gather_S256_S100000x1_S100000_n_0_n_n_0_1_1.batchCoord (ix1 j) 0 = 0 := rfl
  have h3 : gather_S256_S100000x1_S100000_n_0_n_n_0_1_1.offCoord (ix1 j) 0 = 0 := rfl
  rw [h1, h2, h3, BitVec.toInt_eq_toNat_of_lt (by omega)]
  show min ((v (ix1 j)).toNat : Int).toNat 255 + 0 + 0 = (v (ix1 j)).toNat
  omega

end Cert.ReferenceIdeal.Pool

end

namespace Cert.Pool

/-- A sum of real numbers, some left out, none negative, is a real number that is not negative. -/
theorem sum_real {n : ℕ} (p : Fin n → Prop) [DecidablePred p] (a : Fin n → EReal) (ha : ∀ j, ∃ w : ℝ, 0 ≤ w ∧ a j = (w : EReal)) :
    ∃ w : ℝ, 0 ≤ w ∧ (∑ j, if p j then a j else 0) = (w : EReal) := by
  refine Finset.sum_induction _ (fun s : EReal => ∃ w : ℝ, 0 ≤ w ∧ s = (w : EReal)) ?_ ⟨0, le_refl _, rfl⟩ fun j _ => ?_
  · rintro _ _ ⟨v, hv, rfl⟩ ⟨w, hw, rfl⟩
    exact ⟨v + w, add_nonneg hv hw, (EReal.coe_add v w).symm⟩
  · by_cases h : p j
    · rw [if_pos h]; exact ha j
    · rw [if_neg h]; exact ⟨0, le_refl _, rfl⟩

/-- A factor that is a real number and not negative is taken into a sum, infinite summands or not. -/
theorem sum_mul_real {n : ℕ} (f : Fin n → EReal) {k : ℝ} (hk : 0 ≤ k) : (∑ j, f j) * (k : EReal) = ∑ j, f j * (k : EReal) := by
  have h : ∀ s : Finset (Fin n), (∑ j ∈ s, f j) * (k : EReal) = ∑ j ∈ s, f j * (k : EReal) := by
    intro s
    induction s using Finset.cons_induction with
    | empty => rw [Finset.sum_empty, Finset.sum_empty, zero_mul]
    | cons a s ha ih =>
      rw [Finset.sum_cons, Finset.sum_cons, ← ih]
      exact EReal.right_distrib_of_nonneg_of_ne_top (EReal.coe_nonneg.2 hk) (EReal.coe_ne_top k) _ _
  exact h Finset.univ

end Cert.Pool
-- ==== Proof.Value.lean ====
/-
  Hand-written, untrusted. The value claim. The reference's result at a segment and a column is the sum over the segment's rows
  of the row times its weight over the segment's weight sum plus the small constant; a positive real divisor comes out of the
  sum, and what is left is the kernel's quotient. The precondition makes the clip and the missing biases change nothing.
-/
module

public import proofs.«01_k».proof.Proof.Frames
public import proofs.«01_k».proof.Proof.Totals
public import proofs.«01_k».proof.Proof.Segment
public import Idealize.ShloMosaic.Lib.IdealHost
public import Idealize.ShloMosaic.Lib.StackMember

@[expose] public section

noncomputable section

namespace Cert.Pool

open Idealize.ShloMosaic hiding ix1 ix2 ix3 eq_ix2
open Idealize.ShloMosaic.TcCoe Idealize.ShloMosaic.ValueIdx Idealize.SL.Sem

/-! ## The constants -/

theorem sixty : Ideal.ofBits .f32 0x42700000#32 = ((60 : ℝ) : EReal) := by
  simp [Ideal.ofBits, Ideal.ieee, -EReal.coe_mul]; norm_num

theorem minusSixty : Ideal.ofBits .f32 0xC2700000#32 = ((-60 : ℝ) : EReal) := by
  simp [Ideal.ofBits, Ideal.ieee, -EReal.coe_mul, -EReal.coe_neg]; norm_num

/-- The small constant of the divisor is a positive real number. -/
theorem small_pos : ∃ ε : ℝ, 0 < ε ∧ Ideal.ofBits .f32 0x24E69595#32 = (ε : EReal) := by
  refine ⟨_, ?_, by simp [Ideal.ofBits, Ideal.ieee, -EReal.coe_mul]; rfl⟩
  positivity

/-! ## The precondition at the ideal values -/

section Pre

variable {a b : EReal}

theorem eq_of_oeq (h : Ideal.cmp .oeq a b = 1#1) : a = b := by
  have h : BitVec.ofBool (decide (a = b)) = 1#1 := h
  by_contra q
  rw [decide_eq_false q] at h
  exact absurd h (by decide)

theorem le_of_ole (h : Ideal.cmp .ole a b = 1#1) : a ≤ b := by
  have h : BitVec.ofBool (decide (a ≤ b)) = 1#1 := h
  by_contra q
  rw [decide_eq_false q] at h
  exact absurd h (by decide)

end Pre

section Rows

open KernelIdeal.Pool (scoreOf weightOf)

variable (x : FVec Ideal KernelIdeal.S100000x128 .f32) (ids : IVec KernelIdeal.S100000 32) (w1 : FVec Ideal KernelIdeal.S128x64 .f32)
  (b1 : FVec Ideal KernelIdeal.S64 .f32) (w2 : FVec Ideal KernelIdeal.S64x1 .f32) (b2 : FVec Ideal KernelIdeal.S1 .f32)

/-- The precondition's score of a row is the row's score. -/
theorem scoresOf_apply (j : Fin 100000) : Pre_inputs.Pool.scoresOf (F := Ideal) x w1 w2 (ix2 j 0) = scoreOf x w1 w2 j := by
  refine (StackMember.dotGeneral_plain_apply (φ₁ := .f32) (φ₂ := .f32) none
    (Host.tanh (Host.dotGeneral (DotDims.plain 100000 128 64) none x w1)) w2 j 0).trans ?_
  unfold scoreOf
  refine Finset.sum_congr rfl fun k _ => ?_
  show Ideal.tanh (Host.dotGeneral (DotDims.plain 100000 128 64) none x w1 (ix2 j k)) * _ = _
  rw [StackMember.dotGeneral_plain_apply]

variable (h : Pre_inputs.fn (F := Ideal) x ids w1 b1 w2 b2 = fun _ => 1#1)

include h

/-- Every score is a real number from minus sixty to sixty. -/
theorem score_real (j : Fin 100000) : ∃ s : ℝ, -60 ≤ s ∧ s ≤ 60 ∧ scoreOf x w1 w2 j = (s : EReal) := by
  have hs := le_of_ole ((Pre_inputs.Pool.parts x ids w1 b1 w2 b2 h).2.2.2.2 j)
  have hs : max (Pre_inputs.Pool.scoresOf (F := Ideal) x w1 w2 (ix2 j 0)) (-(Pre_inputs.Pool.scoresOf (F := Ideal) x w1 w2 (ix2 j 0)))
      ≤ Ideal.ofBits .f32 0x42700000#32 := hs
  rw [scoresOf_apply, sixty] at hs
  have h1 := (le_max_left _ _).trans hs
  have h2 := (le_max_right _ _).trans hs
  generalize scoreOf x w1 w2 j = s at h1 h2
  induction s using EReal.rec with
  | bot => rw [EReal.neg_bot, top_le_iff] at h2; exact absurd h2 (EReal.coe_ne_top _)
  | top => rw [top_le_iff] at h1; exact absurd h1 (EReal.coe_ne_top _)
  | coe s =>
    rw [← EReal.coe_neg, EReal.coe_le_coe_iff] at h2
    exact ⟨s, by linarith, EReal.coe_le_coe_iff.1 h1, rfl⟩

/-- The clip changes no score. -/
theorem weight_eq (j : Fin 100000) : weightOf x w1 w2 j = Ideal.exp (scoreOf x w1 w2 j) := by
  obtain ⟨s, h1, h2, e⟩ := score_real x ids w1 b1 w2 b2 h j
  unfold weightOf
  rw [e, sixty, minusSixty, max_eq_right (EReal.coe_le_coe_iff.2 h1), min_eq_right (EReal.coe_le_coe_iff.2 h2)]

/-- Every weight is a real number that is not negative. -/
theorem weight_real (j : Fin 100000) : ∃ w : ℝ, 0 ≤ w ∧ weightOf x w1 w2 j = (w : EReal) := by
  obtain ⟨s, -, -, e⟩ := score_real x ids w1 b1 w2 b2 h j
  exact ⟨Real.exp s, (Real.exp_pos s).le, by rw [weight_eq x ids w1 b1 w2 b2 h, e]; rfl⟩

end Rows

/-! ## The reference -/

section Reference

open ReferenceIdeal ReferenceIdeal.Gen
open KernelIdeal.Pool (scoreOf weightOf)

variable (x : FVec Ideal S100000x128 .f32) (ids : IVec S100000 32) (w1 : FVec Ideal S128x64 .f32)
  (b1 : FVec Ideal S64 .f32) (w2 : FVec Ideal S64x1 .f32) (b2 : FVec Ideal S1 .f32)

/-- The reference's scores. -/
def refScores : FVec Ideal S100000 .f32 :=
  shapeCast S100000 (addf (Host.dotGeneral dot_S100000x64_S64x1_S100000x1_1_0_0_1_n_n none
    (Host.tanh (addf (Host.dotGeneral dot_S100000x128_S128x64_S100000x64_1_0_0_1_n_n none x w1)
      (broadcastInDim S100000x64 ![0, 1] bcast_S1x64_S100000x64_0_1 (broadcastInDim S1x64 ![1] bcast_S64_S1x64_1 b1)))) w2)
    (broadcastInDim S100000x1 ![0, 1] bcast_S1x1_S100000x1_0_1 (broadcastInDim S1x1 ![1] bcast_S1_S1x1_1 b2))) shapeCasts_S100000x1_S100000

/-- The reference's exponentials of the scores. -/
def refWeights : FVec Ideal S100000 .f32 := Host.exp (refScores x w1 b1 w2 b2)

/-- The reference's sums of the weights over the segments. -/
def refSums : FVec Ideal S256 .f32 :=
  Host.scatterAdd scatter_S256_S100000x1_S100000_n_0_0_1 (broadcastInDim S256 ![] bcast_S_S256 (constant S_ .f32 0x00000000#32))
    (Pool.column ids) (refWeights x w1 b1 w2 b2)

/-- The reference's probabilities: each weight over its segment's sum plus the small constant. -/
def refProbs : FVec Ideal S100000 .f32 :=
  Host.divf (refWeights x w1 b1 w2 b2) (addf (Host.gather gather_S256_S100000x1_S100000_n_0_n_n_0_1_1 (refSums x ids w1 b1 w2 b2)
    (Pool.column (select (cmpi .slt ids (broadcastInDim S100000 ![] bcast_S_S100000 (constantI S_ 32 0#32)))
      (addi ids (broadcastInDim S100000 ![] bcast_S_S100000 (constantI S_ 32 256#32))) ids)))
    (broadcastInDim S100000 ![] bcast_S_S100000 (constant S_ .f32 0x24E69595#32)))

/-- The reference's result. -/
def refOut : FVec Ideal S256x128 .f32 :=
  Host.scatterAdd scatter_S256x128_S100000x1_S100000x128_1_0_0_1 (broadcastInDim S256x128 ![] bcast_S_S256x128 (constant S_ .f32 0x00000000#32))
    (Pool.column ids) (mulf x (broadcastInDim S100000x128 ![0, 1] bcast_S100000x1_S100000x128_0_1
      (broadcastInDim S100000x1 ![0] bcast_S100000_S100000x1_0 (refProbs x ids w1 b1 w2 b2))))

/-- The first product read at a row and a unit. -/
theorem layer1 (j : Fin 100000) (k : Fin 64) :
    Host.dotGeneral (F := Ideal) dot_S100000x128_S128x64_S100000x64_1_0_0_1_n_n none x w1 (ix2 j k) = ∑ d : Fin 128, x (ix2 j d) * w1 (ix2 d k) :=
  StackMember.dotGeneral_plain_apply (φ₁ := .f32) (φ₂ := .f32) none x w1 j k

/-- The second product read at a row. -/
theorem layer2 (t : FVec Ideal S100000x64 .f32) (j : Fin 100000) :
    Host.dotGeneral (F := Ideal) dot_S100000x64_S64x1_S100000x1_1_0_0_1_n_n none t w2 (ix2 j (0 : Fin 1)) = ∑ k : Fin 64, t (ix2 j k) * w2 (ix2 k 0) :=
  StackMember.dotGeneral_plain_apply (φ₁ := .f32) (φ₂ := .f32) none t w2 j 0

/-- With both biases zero the reference's score of a row is the row's score. -/
theorem refScores_apply (h1 : ∀ k : Fin 64, b1 (ix1 k) = 0) (h2 : b2 (ix1 0) = 0) (j : Fin 100000) :
    refScores x w1 b1 w2 b2 (ix1 j) = scoreOf x w1 w2 j := by
  unfold refScores
  rw [shapeCast_apply _ _ (ix1 j) (ix2 j (0 : Fin 1)) (by
    rw [Shape.rowMajor_val_one, Shape.rowMajor_val_two]
    show j.val * 1 + 0 = j.val
    omega), addf_apply]
  have e2 : broadcastInDim S100000x1 ![0, 1] bcast_S1x1_S100000x1_0_1 (broadcastInDim S1x1 ![1] bcast_S1_S1x1_1 b2) (ix2 j (0 : Fin 1)) = 0 := by
    rw [broadcastInDim_apply _ _ _ _ (ix2 (0 : Fin 1) (0 : Fin 1)) (fun a => by match a with | ⟨0, _⟩ => rfl | ⟨1, _⟩ => rfl),
      broadcastInDim_apply _ _ _ _ (ix1 (0 : Fin 1)) (fun a => by match a with | ⟨0, _⟩ => rfl), h2]
  rw [e2, layer2, add_zero]
  unfold scoreOf
  refine Finset.sum_congr rfl fun k _ => ?_
  have e1 : broadcastInDim S100000x64 ![0, 1] bcast_S1x64_S100000x64_0_1 (broadcastInDim S1x64 ![1] bcast_S64_S1x64_1 b1) (ix2 j k) = 0 := by
    rw [broadcastInDim_apply _ _ _ _ (ix2 (0 : Fin 1) k) (fun a => by match a with | ⟨0, _⟩ => rfl | ⟨1, _⟩ => rfl),
      broadcastInDim_apply _ _ _ _ (ix1 k) (fun a => by match a with | ⟨0, _⟩ => rfl), h1]
  refine congrArg (fun s => Ideal.tanh s * w2 (ix2 k 0)) ?_
  rw [addf_apply, e1, layer1, add_zero]

variable (h : Pre_inputs.fn (F := Ideal) x ids w1 b1 w2 b2 = fun _ => 1#1)

include h

/-- An id is a segment's number, read signed or not. -/
theorem id_iff (j : Fin 100000) (r : Fin 256) : (ids (ix1 j)).toInt = (r.val : Int) ↔ (ids (ix1 j)).toNat = r.val := by
  have := Pre_inputs.Pool.id_lt x ids w1 b1 w2 b2 h j
  rw [BitVec.toInt_eq_toNat_of_lt (by omega)]
  omega

/-- Under the precondition the reference's score of a row is the row's score. -/
theorem refScores_eq (j : Fin 100000) : refScores x w1 b1 w2 b2 (ix1 j) = scoreOf x w1 w2 j := by
  obtain ⟨-, -, hb1, hb2, -⟩ := Pre_inputs.Pool.parts x ids w1 b1 w2 b2 h
  exact refScores_apply x w1 b1 w2 b2 (fun k => (eq_of_oeq (hb1 k)).trans Ideal.ofBits_zero_f32)
    ((eq_of_oeq hb2).trans Ideal.ofBits_zero_f32) j

/-- Under the precondition the reference's weight of a row is the kernel's. -/
theorem refWeights_eq (j : Fin 100000) : refWeights x w1 b1 w2 b2 (ix1 j) = weightOf x w1 w2 j := by
  rw [weight_eq x ids w1 b1 w2 b2 h, ← refScores_eq x ids w1 b1 w2 b2 h]
  rfl

/-- The reference's sum of a segment's weights. -/
theorem refSums_apply (r : Fin 256) :
    refSums x ids w1 b1 w2 b2 (ix1 r) = ∑ j : Fin 100000, if (ids (ix1 j)).toNat = r.val then weightOf x w1 w2 j else 0 := by
  unfold refSums
  rw [ReferenceIdeal.Pool.segmentSum_apply]
  show Ideal.ofBits .f32 0x00000000#32 + _ = _
  rw [Ideal.ofBits_zero_f32, zero_add]
  exact Finset.sum_congr rfl fun j _ => if_congr (id_iff x ids w1 b1 w2 b2 h j r) (refWeights_eq x ids w1 b1 w2 b2 h j) rfl

/-- The reference's probability of a row of segment `r`. -/
theorem refProbs_apply (j : Fin 100000) (r : Fin 256) (hr : (ids (ix1 j)).toNat = r.val) :
    refProbs x ids w1 b1 w2 b2 (ix1 j)
      = Ideal.div (weightOf x w1 w2 j) ((∑ j : Fin 100000, if (ids (ix1 j)).toNat = r.val then weightOf x w1 w2 j else 0)
          + Ideal.ofBits .f32 0x24E69595#32) := by
  have hj := Pre_inputs.Pool.id_lt x ids w1 b1 w2 b2 h j
  have hw := ReferenceIdeal.Pool.wrapped_apply ids j hj
  unfold refProbs
  rw [hostDivf_apply, refWeights_eq x ids w1 b1 w2 b2 h, addf_apply, ReferenceIdeal.Pool.lookup_apply _ _ j (by rw [hw]; exact hj)]
  simp only [hw, hr]
  rw [refSums_apply x ids w1 b1 w2 b2 h]
  rfl

/-- The reference's result at a segment and a column is the kernel's quotient. -/
theorem refOut_apply (r : Fin 256) (d : Fin 128) :
    refOut x ids w1 b1 w2 b2 (ix2 r d)
      = Ideal.div (∑ j : Fin 100000, if (ids (ix1 j)).toNat = r.val then weightOf x w1 w2 j * x (ix2 j d) else 0)
          ((∑ j : Fin 100000, if (ids (ix1 j)).toNat = r.val then weightOf x w1 w2 j else 0) + Ideal.ofBits .f32 0x24E69595#32) := by
  obtain ⟨D, hD, eD⟩ := sum_real (fun j : Fin 100000 => (ids (ix1 j)).toNat = r.val) (weightOf x w1 w2) (weight_real x ids w1 b1 w2 b2 h)
  obtain ⟨ε, hε, eε⟩ := small_pos
  have hc : D + ε ≠ 0 := by linarith
  have hk : 0 ≤ 1 / (D + ε) := one_div_nonneg.2 (by linarith)
  have hp := refProbs_apply x ids w1 b1 w2 b2 h
  rw [eD, eε, ← EReal.coe_add, Ideal.div_coe hc, sum_mul_real _ hk]
  unfold refOut
  rw [ReferenceIdeal.Pool.segmentSumRows_apply]
  show Ideal.ofBits .f32 0x00000000#32 + _ = _
  rw [Ideal.ofBits_zero_f32, zero_add]
  refine Finset.sum_congr rfl fun j _ => ?_
  by_cases hj : (ids (ix1 j)).toNat = r.val
  · rw [if_pos ((id_iff x ids w1 b1 w2 b2 h j r).2 hj), if_pos hj]
    rw [mulf_apply, broadcastInDim_apply _ _ _ _ (ix2 j (0 : Fin 1)) (fun a => by match a with | ⟨0, _⟩ => rfl | ⟨1, _⟩ => rfl),
      broadcastInDim_apply _ _ _ _ (ix1 j) (fun a => by match a with | ⟨0, _⟩ => rfl),
      hp j r hj, eD, eε, ← EReal.coe_add, Ideal.div_coe hc, ← mul_assoc, mul_comm (x (ix2 j d))]
  · rw [if_neg (fun q => hj ((id_iff x ids w1 b1 w2 b2 h j r).1 q)), if_neg hj, zero_mul]

end Reference

/-- On inputs the precondition admits, the reference's result, from the same arguments, is what the kernel leaves. -/
theorem refOut_outcome (m : (ℓ : Loc KernelIdeal.nD KernelIdeal.τ KernelIdeal.sig) → Buf (Elt Ideal) ℓ) (hpre : Cert.Pre_KernelIdeal_inputs m)
    (c : Dev KernelIdeal.nD) :
    refOut (KernelIdeal.Pool.rowsA0 m c) (KernelIdeal.Pool.idsA1 m c) (KernelIdeal.Pool.w1A2 m c)
      (m ((c.tc : Thread KernelIdeal.nD KernelIdeal.τ).loc KernelIdeal.main_arg3)) (KernelIdeal.Pool.w2A4 m c)
      (m ((c.tc : Thread KernelIdeal.nD KernelIdeal.τ).loc KernelIdeal.main_arg5)) = KernelIdeal.Pool.outcome m c := by
  funext i
  obtain ⟨r, d, rfl⟩ : ∃ (r : Fin 256) (d : Fin 128), i = ix2 r d := ⟨i 0, i 1, eq_ix2 i⟩
  exact (refOut_apply _ _ _ _ _ _ (hpre c) r d).trans (KernelIdeal.Pool.outcome_apply m (sorted_of_pre m hpre) c r d).symm

/-- `algebraic`: on inputs the precondition admits, kernel and reference compute the same function of the extended reals. -/
theorem same_value : Cert.algebraic_KernelIdeal_ReferenceIdeal_pre_inputs := by
  intro m g m' g' hpre hargs
  refine ⟨fun c => KernelIdeal.Pool.outcome m c, (θ_run KernelIdeal.defs _ _).mono (fun _ h => h.1)
    (KernelIdeal.Pool.run_outcome m g (KernelIdeal.Pool.inRange_of_lt m fun c => (sorted_of_pre m hpre c).1)), ?_⟩
  refine (θ_run ReferenceIdeal.defs _ _).mono (fun r h c => ⟨(h c).1.trans ?_, (h c).2⟩) (ReferenceIdeal.Value.run (F := Ideal) m' g')
  obtain ⟨e0, e1, e2, e3, e4, e5⟩ := hargs c
  rw [e0, e1, e2, e3, e4, e5]
  exact refOut_outcome m hpre c

end Cert.Pool

end
-- ==== Proof.Shifted.lean ====
/-
  Hand-written, untrusted. The value claim against the reference that keeps the shift by the segment maximum. The maximum of a
  segment with a row is a real number; the exponential of minus that number is a factor of the row's weight, of the segment's
  sum and of the small constant, and cancels. So the shifted probabilities are the ones that are not shifted.
-/
module

public import proofs.«01_k».proof.Proof.Value
public import proofs.«01_k».proof.Proof.Gen.ShiftedIdeal.Run

@[expose] public section

noncomputable section

namespace Cert.Pool

open Idealize.ShloMosaic hiding ix1 ix2 ix3 eq_ix1 eq_ix2
open Idealize.ShloMosaic.TcCoe Idealize.ShloMosaic.ValueIdx Idealize.SL.Sem

/-! ## The maximum of a segment -/

section Max

open ShiftedIdeal ShiftedIdeal.Gen

variable (ids : IVec S100000 32) (s : FVec Ideal S100000 .f32)

theorem minusInf : Ideal.ofBits .f32 0xFF800000#32 = ⊥ := by
  simp [Ideal.ofBits, Ideal.ieee]

/-- The scores laid out by segment: at a segment and a row, the row's score if the row is in the segment, else minus infinity. -/
def laidOut : FVec Ideal S256x100000 .f32 :=
  select (cmpi .eq (broadcastInDim S256x100000 ![0, 1] bcast_S1x100000_S256x100000_0_1 (broadcastInDim S1x100000 ![1] bcast_S100000_S1x100000_1 ids))
      (broadcastInDim S256x100000 ![0, 1] bcast_S256x1_S256x100000_0_1 (broadcastInDim S256x1 ![0] bcast_S256_S256x1_0 (iotaInDim S256 32 0))))
    (broadcastInDim S256x100000 ![0, 1] bcast_S1x100000_S256x100000_0_1 (broadcastInDim S1x100000 ![1] bcast_S100000_S1x100000_1 s))
    (broadcastInDim S256x100000 ![] bcast_S_S256x100000 (id (constant S_ .f32 0xFF800000#32)))

/-- The maximum of each segment's scores. -/
def segMax : FVec Ideal S256 .f32 :=
  Host.reduce FloatOps.maximumf (laidOut ids s) (constant S_ .f32 0xFF800000#32) reducesTo_S256x100000_S256_d1 h_S_

/-- A row's score stands in its own segment. -/
theorem laidOut_member (j : Fin 100000) (r : Fin 256) (hr : (ids (ix1 j)).toNat = r.val) : laidOut ids s (ix2 r j) = s (ix1 j) := by
  unfold laidOut
  show Scalar.select (IntOp.cmpi .eq _ _) _ _ = _
  have e : ids (ix1 j) = BitVec.ofNat 32 r.val := BitVec.eq_of_toNat_eq (by rw [hr, BitVec.toNat_ofNat]; omega)
  rw [broadcastInDim_apply _ _ _ _ (ix2 (0 : Fin 1) j) (fun a => by match a with | ⟨0, _⟩ => rfl | ⟨1, _⟩ => rfl),
    broadcastInDim_apply _ _ _ _ (ix1 j) (fun a => by match a with | ⟨0, _⟩ => rfl),
    broadcastInDim_apply _ _ _ _ (ix2 r (0 : Fin 1)) (fun a => by match a with | ⟨0, _⟩ => rfl | ⟨1, _⟩ => rfl),
    broadcastInDim_apply _ _ _ _ (ix1 r) (fun a => by match a with | ⟨0, _⟩ => rfl),
    broadcastInDim_apply _ _ _ _ (ix2 (0 : Fin 1) j) (fun a => by match a with | ⟨0, _⟩ => rfl | ⟨1, _⟩ => rfl),
    broadcastInDim_apply _ _ _ _ (ix1 j) (fun a => by match a with | ⟨0, _⟩ => rfl), e]
  show Scalar.select (IntOp.cmpi .eq (BitVec.ofNat 32 r.val) (BitVec.ofNat 32 r.val)) (s (ix1 j)) _ = _
  rw [IntOp.cmpi_eq.2 rfl]
  rfl

/-- If no score is plus infinity, nothing laid out is. -/
theorem laidOut_lt_top (hs : ∀ j : Fin 100000, s (ix1 j) < ⊤) (i : S256x100000.Idx) : laidOut ids s i < ⊤ := by
  obtain ⟨r, j, rfl⟩ : ∃ (r : Fin 256) (j : Fin 100000), i = ix2 r j := ⟨i 0, i 1, eq_ix2 i⟩
  unfold laidOut
  show Scalar.select (IntOp.cmpi .eq _ _) _ (Ideal.ofBits .f32 0xFF800000#32) < _
  rw [minusInf, broadcastInDim_apply _ _ (broadcastInDim S1x100000 ![1] bcast_S100000_S1x100000_1 s) (ix2 r j) (ix2 (0 : Fin 1) j)
      (fun a => by match a with | ⟨0, _⟩ => rfl | ⟨1, _⟩ => rfl),
    broadcastInDim_apply _ _ s _ (ix1 j) (fun a => by match a with | ⟨0, _⟩ => rfl)]
  unfold Scalar.select
  split
  · exact hs j
  · exact bot_lt_top

/-- The maximum of real scores over a segment with a row is a real number. -/
theorem segMax_real (hs : ∀ j : Fin 100000, ∃ v : ℝ, s (ix1 j) = (v : EReal)) (j : Fin 100000) (r : Fin 256)
    (hr : (ids (ix1 j)).toNat = r.val) : ∃ M : ℝ, segMax ids s (ix1 r) = (M : EReal) := by
  have htop : segMax ids s (ix1 r) < ⊤ := by
    unfold segMax
    rw [Host.reduce_eq_fold]
    refine (Finset.fold_max_lt _).2 ⟨?_, fun i _ => laidOut_lt_top ids s (fun j => ?_) i⟩
    · show Ideal.ofBits .f32 0xFF800000#32 < _
      rw [minusInf]; exact bot_lt_top
    · obtain ⟨v, e⟩ := hs j
      rw [e]; exact EReal.coe_lt_top v
  have hbot : s (ix1 j) ≤ segMax ids s (ix1 r) := by
    unfold segMax
    rw [Host.reduce_eq_fold]
    refine (Finset.le_fold_max _).2 (.inr ⟨ix2 r j, ?_, (laidOut_member ids s j r hr).ge⟩)
    rw [Finset.mem_filter]
    exact ⟨Finset.mem_univ _, funext fun a => Fin.ext (by match a with | ⟨0, _⟩ => rfl)⟩
  obtain ⟨v, e⟩ := hs j
  rw [e] at hbot
  exact ⟨_, (EReal.coe_toReal htop.ne ((EReal.bot_lt_coe v).trans_le hbot).ne').symm⟩

end Max

/-! ## The reference with the shift -/

section Reference

open ReferenceIdeal ReferenceIdeal.Gen
open KernelIdeal.Pool (scoreOf weightOf)

variable (x : FVec Ideal S100000x128 .f32) (ids : IVec S100000 32) (w1 : FVec Ideal S128x64 .f32)
  (b1 : FVec Ideal S64 .f32) (w2 : FVec Ideal S64x1 .f32) (b2 : FVec Ideal S1 .f32)

/-- A table of the segments looked up at every row's segment. -/
def atRows (t : FVec Ideal S256 .f32) : FVec Ideal S100000 .f32 :=
  Host.gather gather_S256_S100000x1_S100000_n_0_n_n_0_1_1 t
    (Pool.column (select (cmpi .slt ids (broadcastInDim S100000 ![] bcast_S_S100000 (constantI S_ 32 0#32)))
      (addi ids (broadcastInDim S100000 ![] bcast_S_S100000 (constantI S_ 32 256#32))) ids))

/-- Each row's shift: the maximum of its segment's scores. -/
def shifts : FVec Ideal S100000 .f32 := atRows ids (segMax ids (refScores x w1 b1 w2 b2))

/-- The exponentials of the shifted scores. -/
def shWeights : FVec Ideal S100000 .f32 := Host.exp (subf (refScores x w1 b1 w2 b2) (shifts x ids w1 b1 w2 b2))

/-- Their sums over the segments. -/
def shSums : FVec Ideal S256 .f32 :=
  Host.scatterAdd scatter_S256_S100000x1_S100000_n_0_0_1 (broadcastInDim S256 ![] bcast_S_S256 (constant S_ .f32 0x00000000#32))
    (Pool.column ids) (shWeights x ids w1 b1 w2 b2)

/-- The probabilities: each over its segment's sum plus the small constant times the exponential of minus the shift. -/
def shProbs : FVec Ideal S100000 .f32 :=
  Host.divf (shWeights x ids w1 b1 w2 b2) (addf (atRows ids (shSums x ids w1 b1 w2 b2))
    (mulf (broadcastInDim S100000 ![] bcast_S_S100000 (constant S_ .f32 0x24E69595#32)) (Host.exp (Host.negf (shifts x ids w1 b1 w2 b2)))))

/-- The result. -/
def shOut : FVec Ideal S256x128 .f32 :=
  Host.scatterAdd scatter_S256x128_S100000x1_S100000x128_1_0_0_1 (broadcastInDim S256x128 ![] bcast_S_S256x128 (constant S_ .f32 0x00000000#32))
    (Pool.column ids) (mulf x (broadcastInDim S100000x128 ![0, 1] bcast_S100000x1_S100000x128_0_1
      (broadcastInDim S100000x1 ![0] bcast_S100000_S100000x1_0 (shProbs x ids w1 b1 w2 b2))))

/-- The exponential of minus a vector, at an index. -/
theorem exp_neg_apply (v : FVec Ideal S100000 .f32) (i : S100000.Idx) : Host.exp (Host.negf v) i = Ideal.exp (-(v i : EReal)) := rfl

variable (h : Pre_inputs.fn (F := Ideal) x ids w1 b1 w2 b2 = fun _ => 1#1)

include h

/-- A table looked up at a row of segment `r` is the table at `r`. -/
theorem atRows_apply (t : FVec Ideal S256 .f32) (j : Fin 100000) (r : Fin 256) (hr : (ids (ix1 j)).toNat = r.val) :
    atRows ids t (ix1 j) = t (ix1 r) := by
  have hj := Pre_inputs.Pool.id_lt x ids w1 b1 w2 b2 h j
  have hw := ReferenceIdeal.Pool.wrapped_apply ids j hj
  unfold atRows
  rw [ReferenceIdeal.Pool.lookup_apply _ _ j (by rw [hw]; exact hj)]
  simp only [hw, hr]

/-- In a segment with a row all rows have one shift, a real number, and a row's shifted weight is its weight times the
    exponential of minus the shift. -/
theorem shWeights_apply (r : Fin 256) (j₀ : Fin 100000) (h₀ : (ids (ix1 j₀)).toNat = r.val) :
    ∃ M : ℝ, ∀ j : Fin 100000, (ids (ix1 j)).toNat = r.val → shifts x ids w1 b1 w2 b2 (ix1 j) = (M : EReal)
      ∧ shWeights x ids w1 b1 w2 b2 (ix1 j) = weightOf x w1 w2 j * (Real.exp (-M) : EReal) := by
  have hs : ∀ j : Fin 100000, ∃ v : ℝ, refScores x w1 b1 w2 b2 (ix1 j) = (v : EReal) := fun j => by
    obtain ⟨v, -, -, e⟩ := score_real x ids w1 b1 w2 b2 h j
    exact ⟨v, (refScores_eq x ids w1 b1 w2 b2 h j).trans e⟩
  obtain ⟨M, eM⟩ := segMax_real ids _ hs j₀ r h₀
  refine ⟨M, fun j hj => ?_⟩
  have e : shifts x ids w1 b1 w2 b2 (ix1 j) = (M : EReal) := (atRows_apply x ids w1 b1 w2 b2 h _ j r hj).trans eM
  refine ⟨e, ?_⟩
  show Ideal.exp (refScores x w1 b1 w2 b2 (ix1 j) - shifts x ids w1 b1 w2 b2 (ix1 j)) = _
  rw [e, ← refWeights_eq x ids w1 b1 w2 b2 h]
  show _ = Ideal.exp (refScores x w1 b1 w2 b2 (ix1 j)) * _
  obtain ⟨v, ev⟩ := hs j
  rw [ev, ← EReal.coe_sub, Ideal.exp_coe, Ideal.exp_coe, sub_eq_add_neg, Real.exp_add, EReal.coe_mul]

/-- The shift changes no probability. -/
theorem shProbs_eq : shProbs x ids w1 b1 w2 b2 = refProbs x ids w1 b1 w2 b2 := by
  funext i
  obtain ⟨j, rfl⟩ : ∃ j : Fin 100000, i = ix1 j := ⟨i 0, eq_ix1 i⟩
  obtain ⟨r, hr⟩ : ∃ r : Fin 256, (ids (ix1 j)).toNat = r.val := ⟨⟨_, Pre_inputs.Pool.id_lt x ids w1 b1 w2 b2 h j⟩, rfl⟩
  obtain ⟨M, hM⟩ := shWeights_apply x ids w1 b1 w2 b2 h r j hr
  obtain ⟨D, hD, eD⟩ := sum_real (fun j : Fin 100000 => (ids (ix1 j)).toNat = r.val) (weightOf x w1 w2) (weight_real x ids w1 b1 w2 b2 h)
  obtain ⟨ε, hε, eε⟩ := small_pos
  obtain ⟨w, -, ew⟩ := weight_real x ids w1 b1 w2 b2 h j
  have hk := Real.exp_pos (-M)
  have hsum : shSums x ids w1 b1 w2 b2 (ix1 r) = (D : EReal) * (Real.exp (-M) : EReal) := by
    unfold shSums
    rw [ReferenceIdeal.Pool.segmentSum_apply]
    show Ideal.ofBits .f32 0x00000000#32 + _ = _
    rw [Ideal.ofBits_zero_f32, zero_add, ← eD, sum_mul_real _ hk.le]
    refine Finset.sum_congr rfl fun k _ => ?_
    by_cases q : (ids (ix1 k)).toNat = r.val
    · rw [if_pos ((id_iff x ids w1 b1 w2 b2 h k r).2 q), if_pos q, (hM k q).2]
    · rw [if_neg fun z => q ((id_iff x ids w1 b1 w2 b2 h k r).1 z), if_neg q, zero_mul]
  have he : mulf (broadcastInDim S100000 ![] bcast_S_S100000 (constant S_ .f32 0x24E69595#32)) (Host.exp (Host.negf (shifts x ids w1 b1 w2 b2))) (ix1 j)
      = Ideal.ofBits .f32 0x24E69595#32 * (Real.exp (-M) : EReal) := by
    have e1 : broadcastInDim S100000 ![] bcast_S_S100000 (constant (F := Ideal) S_ .f32 0x24E69595#32) (ix1 j) = Ideal.ofBits .f32 0x24E69595#32 := rfl
    rw [mulf_apply, e1, exp_neg_apply, (hM j hr).1, ← EReal.coe_neg, Ideal.exp_coe]
  have hd : shProbs x ids w1 b1 w2 b2 (ix1 j)
      = Ideal.div (weightOf x w1 w2 j * (Real.exp (-M) : EReal))
        ((D : EReal) * (Real.exp (-M) : EReal) + Ideal.ofBits .f32 0x24E69595#32 * (Real.exp (-M) : EReal)) := by
    unfold shProbs
    rw [hostDivf_apply, (hM j hr).2, addf_apply, atRows_apply x ids w1 b1 w2 b2 h _ j r hr, hsum, he]
  rw [hd, refProbs_apply x ids w1 b1 w2 b2 h j r hr, eD, eε, ew, ← EReal.coe_mul, ← EReal.coe_mul, ← EReal.coe_mul, ← EReal.coe_add,
    ← EReal.coe_add, Ideal.div_coe (by positivity), Ideal.div_coe (by positivity), ← EReal.coe_mul, ← EReal.coe_mul]
  refine congrArg _ ?_
  have h1 : D + ε ≠ 0 := by positivity
  field_simp

/-- The shift does not change the result. -/
theorem shOut_eq : shOut x ids w1 b1 w2 b2 = refOut x ids w1 b1 w2 b2 := by
  unfold shOut refOut
  rw [shProbs_eq x ids w1 b1 w2 b2 h]

end Reference

/-- `frame` of the reference with the shift: a line of array operations, with no counter at all. -/
theorem frame_shifted : Cert.quiescent_ShiftedIdeal := fun m ρ _ =>
  (θ_run ShiftedIdeal.defs _ _).mono (fun r h => ⟨fun c => (h c).2, sem_eq_zero_of_no_sems (by decide) r.2⟩)
    (ShiftedIdeal.Value.run (F := Ideal) m ρ)

/-- `algebraic`: on inputs the precondition admits, kernel and the reference with the shift compute the same function of the
    extended reals. -/
theorem same_shifted : Cert.algebraic_KernelIdeal_ShiftedIdeal_pre_inputs := by
  intro m g m' g' hpre hargs
  refine ⟨fun c => KernelIdeal.Pool.outcome m c, (θ_run KernelIdeal.defs _ _).mono (fun _ h => h.1)
    (KernelIdeal.Pool.run_outcome m g (KernelIdeal.Pool.inRange_of_lt m fun c => (sorted_of_pre m hpre c).1)), ?_⟩
  refine (θ_run ShiftedIdeal.defs _ _).mono (fun r h c => ⟨(h c).1.trans ?_, (h c).2⟩) (ShiftedIdeal.Value.run (F := Ideal) m' g')
  obtain ⟨e0, e1, e2, e3, e4, e5⟩ := hargs c
  unfold ShiftedIdeal.Value.res_main_v49
  rw [e0, e1, e2, e3, e4, e5]
  exact (shOut_eq _ _ _ _ _ _ (hpre c)).trans (refOut_outcome m hpre c)

end Cert.Pool

end
-- ==== Proof.lean ====
/-
  Hand-written, untrusted. The certificate's claims, assembled from the modules under Proof/.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ShiftedIdeal
public import proofs.«01_k».proof.Proof.Gen.ShiftedIdeal.Run
public import proofs.«01_k».proof.Proof.Gen.Pre_in_range
public import proofs.«01_k».proof.Proof.Gen.Pre_inputs
public import proofs.«01_k».proof.Proof.Shifted
public import Idealize.ShloMosaic.Adequacy
public import Idealize.ShloMosaic.Init

@[expose] public section

noncomputable section

namespace Cert.Proof

open Idealize.ShloMosaic

theorem claim : Cert.Claim :=
  ⟨Cert.Kernel.Gen.facts, Cert.KernelIdeal.Gen.facts, Cert.ReferenceIdeal.Gen.facts, Cert.ShiftedIdeal.Gen.facts,
    Cert.Pre_in_range.Gen.facts, Cert.Pre_inputs.Gen.facts,
    Cert.Pool.frame_kernel, Cert.Pool.frame_ideal, fun m ρ h => Cert.Pool.frame_of_lt m ρ fun c => (Cert.Pool.sorted_of_pre m h c).1,
    Cert.Pool.frame_reference, fun m ρ _ => Cert.Pool.frame_reference m ρ trivial,
    Cert.Pool.frame_shifted, fun m ρ _ => Cert.Pool.frame_shifted m ρ trivial, trivial, Cert.Pool.same_value, Cert.Pool.same_shifted⟩

end Cert.Proof

end
